-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![32, 256, 512]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x32 : Shape := ⟨2, ![256, 32]⟩
abbrev S512x1 : Shape := ⟨2, ![512, 1]⟩
abbrev S2x256x512 : Shape := ⟨3, ![2, 256, 512]⟩
abbrev S256x512 : Shape := ⟨2, ![256, 512]⟩
abbrev S512x512 : Shape := ⟨2, ![512, 512]⟩
abbrev S15x32x512 : Shape := ⟨3, ![15, 32, 512]⟩
abbrev S15 : Shape := ⟨1, ![15]⟩
abbrev S_ : Shape := ⟨0, ![]⟩
abbrev S512x32 : Shape := ⟨2, ![512, 32]⟩
abbrev S512 : Shape := ⟨1, ![512]⟩
abbrev S1x256x512 : Shape := ⟨3, ![1, 256, 512]⟩
abbrev S256x1024 : Shape := ⟨2, ![256, 1024]⟩
abbrev S512x1024 : Shape := ⟨2, ![512, 1024]⟩
abbrev S1 : Shape := ⟨1, ![1]⟩
abbrev S1x32x512 : Shape := ⟨3, ![1, 32, 512]⟩
abbrev S32x512 : Shape := ⟨2, ![32, 512]⟩

abbrev nBuf : Space → Nat
  | .hbm => 6
  | .vmem => 9
  | .smem => 0
  | _ => 0

abbrev bufTy : (tb : Table) → Fin (tcTables nBuf tb) → BufTy
  | .hbm, ⟨0, _⟩ => ⟨S512x256, .bf16⟩
  | .hbm, ⟨1, _⟩ => ⟨S256x32, .bf16⟩
  | .hbm, ⟨2, _⟩ => ⟨S512x1, .i32⟩
  | .hbm, ⟨3, _⟩ => ⟨S2x256x512, .bf16⟩
  | .hbm, ⟨4, _⟩ => ⟨S256x512, .bf16⟩
  | .hbm, ⟨5, _⟩ => ⟨S512x512, .f32⟩
  | .local _ .vmem, ⟨0, _⟩ => ⟨S512x256, .bf16⟩
  | .local _ .vmem, ⟨1, _⟩ => ⟨S256x32, .bf16⟩
  | .local _ .vmem, ⟨2, _⟩ => ⟨S512x1, .i32⟩
  | .local _ .vmem, ⟨3, _⟩ => ⟨S2x256x512, .bf16⟩
  | .local _ .vmem, ⟨4, _⟩ => ⟨S256x512, .bf16⟩
  | .local _ .vmem, ⟨5, _⟩ => ⟨S512x512, .f32⟩
  | .local _ .vmem, ⟨6, _⟩ => ⟨S512x512, .bf16⟩
  | .local _ .vmem, ⟨7, _⟩ => ⟨S15x32x512, .bf16⟩
  | .local _ .vmem, ⟨8, _⟩ => ⟨S512x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_89 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v126 : BitVec 32 := Scalar.addi v2 c1_i32_89
  let c16_i32_90 : BitVec 32 := 16#32
  let v127 : BitVec 32 := Scalar.remsi v126 c16_i32_90
  let c32_i32 : BitVec 32 := 32#32
  let v128 : BitVec 32 := Scalar.muli v127 c32_i32
  let c0_i32_98 : BitVec 32 := 0#32
  ![v128.toNat, 0]
def k0_dev16 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_89 : BitVec 32 := 1#32
  let v126 : BitVec 32 := Scalar.addi v2 c1_i32_89
  let c16_i32_90 : BitVec 32 := 16#32
  let v127 : BitVec 32 := Scalar.remsi v126 c16_i32_90
  let c1_i32_94 : BitVec 32 := 1#32
  let v129 : BitVec 32 := Scalar.muli v127 c1_i32_94
  let v130 : BitVec 32 := Scalar.addi c0_i32_95 v129
  v130.toNat
def k0_dev17 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_99 : BitVec 32 := 2#32
  let v138 : BitVec 32 := Scalar.addi v2 c2_i32_99
  let c16_i32_100 : BitVec 32 := 16#32
  let v139 : BitVec 32 := Scalar.remsi v138 c16_i32_100
  let c1_i32_105 : BitVec 32 := 1#32
  let v141 : BitVec 32 := Scalar.muli v139 c1_i32_105
  let v142 : BitVec 32 := Scalar.addi c0_i32_106 v141
  v142.toNat
def k0_dev18 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_110 : BitVec 32 := 3#32
  let v150 : BitVec 32 := Scalar.addi v2 c3_i32_110
  let c16_i32_111 : BitVec 32 := 16#32
  let v151 : BitVec 32 := Scalar.remsi v150 c16_i32_111
  let c1_i32_116 : BitVec 32 := 1#32
  let v153 : BitVec 32 := Scalar.muli v151 c1_i32_116
  let v154 : BitVec 32 := Scalar.addi c0_i32_117 v153
  v154.toNat
def k0_dev19 (d0 : Dev nD) : Nat :=
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_121 : BitVec 32 := 4#32
  let v162 : BitVec 32 := Scalar.addi v2 c4_i32_121
  let c16_i32_122 : BitVec 32 := 16#32
  let v163 : BitVec 32 := Scalar.remsi v162 c16_i32_122
  let c1_i32_127 : BitVec 32 := 1#32
  let v165 : BitVec 32 := Scalar.muli v163 c1_i32_127
  let v166 : BitVec 32 := Scalar.addi c0_i32_128 v165
  v166.toNat
def k0_dev20 (d0 : Dev nD) : Nat :=
  let c0_i32_139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_132 : BitVec 32 := 5#32
  let v174 : BitVec 32 := Scalar.addi v2 c5_i32_132
  let c16_i32_133 : BitVec 32 := 16#32
  let v175 : BitVec 32 := Scalar.remsi v174 c16_i32_133
  let c1_i32_138 : BitVec 32 := 1#32
  let v177 : BitVec 32 := Scalar.muli v175 c1_i32_138
  let v178 : BitVec 32 := Scalar.addi c0_i32_139 v177
  v178.toNat
def k0_dev21 (d0 : Dev nD) : Nat :=
  let c0_i32_150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_143 : BitVec 32 := 6#32
  let v186 : BitVec 32 := Scalar.addi v2 c6_i32_143
  let c16_i32_144 : BitVec 32 := 16#32
  let v187 : BitVec 32 := Scalar.remsi v186 c16_i32_144
  let c1_i32_149 : BitVec 32 := 1#32
  let v189 : BitVec 32 := Scalar.muli v187 c1_i32_149
  let v190 : BitVec 32 := Scalar.addi c0_i32_150 v189
  v190.toNat
def k0_dev22 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_154 : BitVec 32 := 7#32
  let v198 : BitVec 32 := Scalar.addi v2 c7_i32_154
  let c16_i32_155 : BitVec 32 := 16#32
  let v199 : BitVec 32 := Scalar.remsi v198 c16_i32_155
  let c1_i32_160 : BitVec 32 := 1#32
  let v201 : BitVec 32 := Scalar.muli v199 c1_i32_160
  let v202 : BitVec 32 := Scalar.addi c0_i32_161 v201
  v202.toNat
def k0_dev23 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_165 : BitVec 32 := 8#32
  let v210 : BitVec 32 := Scalar.addi v2 c8_i32_165
  let c16_i32_166 : BitVec 32 := 16#32
  let v211 : BitVec 32 := Scalar.remsi v210 c16_i32_166
  let c1_i32_171 : BitVec 32 := 1#32
  let v213 : BitVec 32 := Scalar.muli v211 c1_i32_171
  let v214 : BitVec 32 := Scalar.addi c0_i32_172 v213
  v214.toNat
def k0_dev24 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_176 : BitVec 32 := 9#32
  let v222 : BitVec 32 := Scalar.addi v2 c9_i32_176
  let c16_i32_177 : BitVec 32 := 16#32
  let v223 : BitVec 32 := Scalar.remsi v222 c16_i32_177
  let c1_i32_182 : BitVec 32 := 1#32
  let v225 : BitVec 32 := Scalar.muli v223 c1_i32_182
  let v226 : BitVec 32 := Scalar.addi c0_i32_183 v225
  v226.toNat
def k0_dev25 (d0 : Dev nD) : Nat :=
  let c0_i32_194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_187 : BitVec 32 := 10#32
  let v234 : BitVec 32 := Scalar.addi v2 c10_i32_187
  let c16_i32_188 : BitVec 32 := 16#32
  let v235 : BitVec 32 := Scalar.remsi v234 c16_i32_188
  let c1_i32_193 : BitVec 32 := 1#32
  let v237 : BitVec 32 := Scalar.muli v235 c1_i32_193
  let v238 : BitVec 32 := Scalar.addi c0_i32_194 v237
  v238.toNat
def k0_dev26 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_198 : BitVec 32 := 11#32
  let v246 : BitVec 32 := Scalar.addi v2 c11_i32_198
  let c16_i32_199 : BitVec 32 := 16#32
  let v247 : BitVec 32 := Scalar.remsi v246 c16_i32_199
  let c1_i32_204 : BitVec 32 := 1#32
  let v249 : BitVec 32 := Scalar.muli v247 c1_i32_204
  let v250 : BitVec 32 := Scalar.addi c0_i32_205 v249
  v250.toNat
def k0_dev27 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_209 : BitVec 32 := 12#32
  let v258 : BitVec 32 := Scalar.addi v2 c12_i32_209
  let c16_i32_210 : BitVec 32 := 16#32
  let v259 : BitVec 32 := Scalar.remsi v258 c16_i32_210
  let c1_i32_215 : BitVec 32 := 1#32
  let v261 : BitVec 32 := Scalar.muli v259 c1_i32_215
  let v262 : BitVec 32 := Scalar.addi c0_i32_216 v261
  v262.toNat
def k0_dev28 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_220 : BitVec 32 := 13#32
  let v270 : BitVec 32 := Scalar.addi v2 c13_i32_220
  let c16_i32_221 : BitVec 32 := 16#32
  let v271 : BitVec 32 := Scalar.remsi v270 c16_i32_221
  let c1_i32_226 : BitVec 32 := 1#32
  let v273 : BitVec 32 := Scalar.muli v271 c1_i32_226
  let v274 : BitVec 32 := Scalar.addi c0_i32_227 v273
  v274.toNat
def k0_dev29 (d0 : Dev nD) : Nat :=
  let c0_i32_238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_231 : BitVec 32 := 14#32
  let v282 : BitVec 32 := Scalar.addi v2 c14_i32_231
  let c16_i32_232 : BitVec 32 := 16#32
  let v283 : BitVec 32 := Scalar.remsi v282 c16_i32_232
  let c1_i32_237 : BitVec 32 := 1#32
  let v285 : BitVec 32 := Scalar.muli v283 c1_i32_237
  let v286 : BitVec 32 := Scalar.addi c0_i32_238 v285
  v286.toNat
def k0_dev30 (d0 : Dev nD) : Nat :=
  let c0_i32_249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_242 : BitVec 32 := 15#32
  let v294 : BitVec 32 := Scalar.addi v2 c15_i32_242
  let c16_i32_243 : BitVec 32 := 16#32
  let v295 : BitVec 32 := Scalar.remsi v294 c16_i32_243
  let c1_i32_248 : BitVec 32 := 1#32
  let v297 : BitVec 32 := Scalar.muli v295 c1_i32_248
  let v298 : BitVec 32 := Scalar.addi c0_i32_249 v297
  v298.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_258 : BitVec 32 := 32#32
  let v310 : BitVec 32 := Scalar.muli v2 c32_i32_258
  let v311 : Index := Scalar.indexCast v310
  let c0_259 : Index := 0#32
  ![v311.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_432 : BitVec 32 := 32#32
  let v488 : BitVec 32 := Scalar.muli v2 c32_i32_432
  let c0_i32_437 : BitVec 32 := 0#32
  ![v488.toNat, 0]
def k0_dev31 (d0 : Dev nD) : Nat :=
  let c0_i32_436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_429 : BitVec 32 := 1#32
  let v485 : BitVec 32 := Scalar.addi v2 c1_i32_429
  let c16_i32_430 : BitVec 32 := 16#32
  let v486 : BitVec 32 := Scalar.remsi v485 c16_i32_430
  let c1_i32_435 : BitVec 32 := 1#32
  let v489 : BitVec 32 := Scalar.muli v486 c1_i32_435
  let v490 : BitVec 32 := Scalar.addi c0_i32_436 v489
  v490.toNat
def k0_dev32 (d0 : Dev nD) : Nat :=
  let c0_i32_446 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_439 : BitVec 32 := 2#32
  let v497 : BitVec 32 := Scalar.addi v2 c2_i32_439
  let c16_i32_440 : BitVec 32 := 16#32
  let v498 : BitVec 32 := Scalar.remsi v497 c16_i32_440
  let c1_i32_445 : BitVec 32 := 1#32
  let v501 : BitVec 32 := Scalar.muli v498 c1_i32_445
  let v502 : BitVec 32 := Scalar.addi c0_i32_446 v501
  v502.toNat
def k0_dev33 (d0 : Dev nD) : Nat :=
  let c0_i32_456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_449 : BitVec 32 := 3#32
  let v509 : BitVec 32 := Scalar.addi v2 c3_i32_449
  let c16_i32_450 : BitVec 32 := 16#32
  let v510 : BitVec 32 := Scalar.remsi v509 c16_i32_450
  let c1_i32_455 : BitVec 32 := 1#32
  let v513 : BitVec 32 := Scalar.muli v510 c1_i32_455
  let v514 : BitVec 32 := Scalar.addi c0_i32_456 v513
  v514.toNat
def k0_dev34 (d0 : Dev nD) : Nat :=
  let c0_i32_466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_459 : BitVec 32 := 4#32
  let v521 : BitVec 32 := Scalar.addi v2 c4_i32_459
  let c16_i32_460 : BitVec 32 := 16#32
  let v522 : BitVec 32 := Scalar.remsi v521 c16_i32_460
  let c1_i32_465 : BitVec 32 := 1#32
  let v525 : BitVec 32 := Scalar.muli v522 c1_i32_465
  let v526 : BitVec 32 := Scalar.addi c0_i32_466 v525
  v526.toNat
def k0_dev35 (d0 : Dev nD) : Nat :=
  let c0_i32_476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_469 : BitVec 32 := 5#32
  let v533 : BitVec 32 := Scalar.addi v2 c5_i32_469
  let c16_i32_470 : BitVec 32 := 16#32
  let v534 : BitVec 32 := Scalar.remsi v533 c16_i32_470
  let c1_i32_475 : BitVec 32 := 1#32
  let v537 : BitVec 32 := Scalar.muli v534 c1_i32_475
  let v538 : BitVec 32 := Scalar.addi c0_i32_476 v537
  v538.toNat
def k0_dev36 (d0 : Dev nD) : Nat :=
  let c0_i32_486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_479 : BitVec 32 := 6#32
  let v545 : BitVec 32 := Scalar.addi v2 c6_i32_479
  let c16_i32_480 : BitVec 32 := 16#32
  let v546 : BitVec 32 := Scalar.remsi v545 c16_i32_480
  let c1_i32_485 : BitVec 32 := 1#32
  let v549 : BitVec 32 := Scalar.muli v546 c1_i32_485
  let v550 : BitVec 32 := Scalar.addi c0_i32_486 v549
  v550.toNat
def k0_dev37 (d0 : Dev nD) : Nat :=
  let c0_i32_496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_489 : BitVec 32 := 7#32
  let v557 : BitVec 32 := Scalar.addi v2 c7_i32_489
  let c16_i32_490 : BitVec 32 := 16#32
  let v558 : BitVec 32 := Scalar.remsi v557 c16_i32_490
  let c1_i32_495 : BitVec 32 := 1#32
  let v561 : BitVec 32 := Scalar.muli v558 c1_i32_495
  let v562 : BitVec 32 := Scalar.addi c0_i32_496 v561
  v562.toNat
def k0_dev38 (d0 : Dev nD) : Nat :=
  let c0_i32_506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_499 : BitVec 32 := 8#32
  let v569 : BitVec 32 := Scalar.addi v2 c8_i32_499
  let c16_i32_500 : BitVec 32 := 16#32
  let v570 : BitVec 32 := Scalar.remsi v569 c16_i32_500
  let c1_i32_505 : BitVec 32 := 1#32
  let v573 : BitVec 32 := Scalar.muli v570 c1_i32_505
  let v574 : BitVec 32 := Scalar.addi c0_i32_506 v573
  v574.toNat
def k0_dev39 (d0 : Dev nD) : Nat :=
  let c0_i32_516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_509 : BitVec 32 := 9#32
  let v581 : BitVec 32 := Scalar.addi v2 c9_i32_509
  let c16_i32_510 : BitVec 32 := 16#32
  let v582 : BitVec 32 := Scalar.remsi v581 c16_i32_510
  let c1_i32_515 : BitVec 32 := 1#32
  let v585 : BitVec 32 := Scalar.muli v582 c1_i32_515
  let v586 : BitVec 32 := Scalar.addi c0_i32_516 v585
  v586.toNat
def k0_dev40 (d0 : Dev nD) : Nat :=
  let c0_i32_526 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_519 : BitVec 32 := 10#32
  let v593 : BitVec 32 := Scalar.addi v2 c10_i32_519
  let c16_i32_520 : BitVec 32 := 16#32
  let v594 : BitVec 32 := Scalar.remsi v593 c16_i32_520
  let c1_i32_525 : BitVec 32 := 1#32
  let v597 : BitVec 32 := Scalar.muli v594 c1_i32_525
  let v598 : BitVec 32 := Scalar.addi c0_i32_526 v597
  v598.toNat
def k0_dev41 (d0 : Dev nD) : Nat :=
  let c0_i32_536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_529 : BitVec 32 := 11#32
  let v605 : BitVec 32 := Scalar.addi v2 c11_i32_529
  let c16_i32_530 : BitVec 32 := 16#32
  let v606 : BitVec 32 := Scalar.remsi v605 c16_i32_530
  let c1_i32_535 : BitVec 32 := 1#32
  let v609 : BitVec 32 := Scalar.muli v606 c1_i32_535
  let v610 : BitVec 32 := Scalar.addi c0_i32_536 v609
  v610.toNat
def k0_dev42 (d0 : Dev nD) : Nat :=
  let c0_i32_546 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_539 : BitVec 32 := 12#32
  let v617 : BitVec 32 := Scalar.addi v2 c12_i32_539
  let c16_i32_540 : BitVec 32 := 16#32
  let v618 : BitVec 32 := Scalar.remsi v617 c16_i32_540
  let c1_i32_545 : BitVec 32 := 1#32
  let v621 : BitVec 32 := Scalar.muli v618 c1_i32_545
  let v622 : BitVec 32 := Scalar.addi c0_i32_546 v621
  v622.toNat
def k0_dev43 (d0 : Dev nD) : Nat :=
  let c0_i32_556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_549 : BitVec 32 := 13#32
  let v629 : BitVec 32 := Scalar.addi v2 c13_i32_549
  let c16_i32_550 : BitVec 32 := 16#32
  let v630 : BitVec 32 := Scalar.remsi v629 c16_i32_550
  let c1_i32_555 : BitVec 32 := 1#32
  let v633 : BitVec 32 := Scalar.muli v630 c1_i32_555
  let v634 : BitVec 32 := Scalar.addi c0_i32_556 v633
  v634.toNat
def k0_dev44 (d0 : Dev nD) : Nat :=
  let c0_i32_566 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_559 : BitVec 32 := 14#32
  let v641 : BitVec 32 := Scalar.addi v2 c14_i32_559
  let c16_i32_560 : BitVec 32 := 16#32
  let v642 : BitVec 32 := Scalar.remsi v641 c16_i32_560
  let c1_i32_565 : BitVec 32 := 1#32
  let v645 : BitVec 32 := Scalar.muli v642 c1_i32_565
  let v646 : BitVec 32 := Scalar.addi c0_i32_566 v645
  v646.toNat
def k0_dev45 (d0 : Dev nD) : Nat :=
  let c0_i32_576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_569 : BitVec 32 := 15#32
  let v653 : BitVec 32 := Scalar.addi v2 c15_i32_569
  let c16_i32_570 : BitVec 32 := 16#32
  let v654 : BitVec 32 := Scalar.remsi v653 c16_i32_570
  let c1_i32_575 : BitVec 32 := 1#32
  let v657 : BitVec 32 := Scalar.muli v654 c1_i32_575
  let v658 : BitVec 32 := Scalar.addi c0_i32_576 v657
  v658.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x256 : Shape := ⟨2, ![512, 256]⟩
abbrev S256x32 : Shape := ⟨2, ![256, 32]⟩
abbrev S512x1 : Shape := ⟨2, ![512, 1]⟩
abbrev S32x256x512 : Shape := ⟨3, ![32, 256, 512]⟩
abbrev S256x512 : Shape := ⟨2, ![256, 512]⟩
abbrev S512x32 : Shape := ⟨2, ![512, 32]⟩
abbrev S_ : Shape := ⟨0, ![]⟩
abbrev S512 : Shape := ⟨1, ![512]⟩
abbrev S512x512 : Shape := ⟨2, ![512, 512]⟩
abbrev S512x1x1 : Shape := ⟨3, ![512, 1, 1]⟩
abbrev S512x256x512 : Shape := ⟨3, ![512, 256, 512]⟩

abbrev nBuf : Space → Nat
  | .hbm => 50
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x32, .bf16⟩
  | .hbm, ⟨2, _⟩ => ⟨S512x1, .i32⟩
  | .hbm, ⟨3, _⟩ => ⟨S32x256x512, .bf16⟩
  | .hbm, ⟨4, _⟩ => ⟨S256x512, .bf16⟩
  | .hbm, ⟨5, _⟩ => ⟨S512x256, .f32⟩
  | .hbm, ⟨6, _⟩ => ⟨S256x32, .f32⟩
  | .hbm, ⟨7, _⟩ => ⟨S32x256x512, .f32⟩
  | .hbm, ⟨8, _⟩ => ⟨S256x512, .f32⟩
  | .hbm, ⟨9, _⟩ => ⟨S512x32, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S512x32, .f32⟩
  | .hbm, ⟨14, _⟩ => ⟨S512x32, .f32⟩
  | .hbm, ⟨15, _⟩ => ⟨S512x32, .f32⟩
  | .hbm, ⟨16, _⟩ => ⟨S_, .f32⟩
  | .hbm, ⟨17, _⟩ => ⟨S512, .f32⟩
  | .hbm, ⟨18, _⟩ => ⟨S512x1, .f32⟩
  | .hbm, ⟨19, _⟩ => ⟨S512x32, .f32⟩
  | .hbm, ⟨20, _⟩ => ⟨S512x32, .f32⟩
  | .hbm, ⟨21, _⟩ => ⟨S512x512, .f32⟩
  | .hbm, ⟨22, _⟩ => ⟨S512, .i32⟩
  | .hbm, ⟨23, _⟩ => ⟨S_, .i32⟩
  | .hbm, ⟨24, _⟩ => ⟨S512x1, .i32⟩
  | .hbm, ⟨25, _⟩ => ⟨S512x1, .i1⟩
  | .hbm, ⟨26, _⟩ => ⟨S_, .i32⟩
  | .hbm, ⟨27, _⟩ => ⟨S512x1, .i32⟩
  | .hbm, ⟨28, _⟩ => ⟨S512x1, .i32⟩
  | .hbm, ⟨29, _⟩ => ⟨S512x1, .i32⟩
  | .hbm, ⟨30, _⟩ => ⟨S512x1x1, .i32⟩
  | .hbm, ⟨31, _⟩ => ⟨S512x1, .f32⟩
  | .hbm, ⟨32, _⟩ => ⟨S512x1, .i32⟩
  | .hbm, ⟨33, _⟩ => ⟨S512x256x512, .f32⟩
  | .hbm, ⟨34, _⟩ => ⟨S512x512, .f32⟩
  | .hbm, ⟨35, _⟩ => ⟨S_, .i32⟩
  | .hbm, ⟨36, _⟩ => ⟨S512x1, .i32⟩
  | .hbm, ⟨37, _⟩ => ⟨S512x1, .i1⟩
  | .hbm, ⟨38, _⟩ => ⟨S_, .i32⟩
  | .hbm, ⟨39, _⟩ => ⟨S512x1, .i32⟩
  | .hbm, ⟨40, _⟩ => ⟨S512x1, .i1⟩
  | .hbm, ⟨41, _⟩ => ⟨S512x1, .i1⟩
  | .hbm, ⟨42, _⟩ => ⟨S512x512, .f32⟩
  | .hbm, ⟨43, _⟩ => ⟨S512x512, .f32⟩
  | .hbm, ⟨44, _⟩ => ⟨S_, .f32⟩
  | .hbm, ⟨45, _⟩ => ⟨S_, .f32⟩
  | .hbm, ⟨46, _⟩ => ⟨S512x512, .i1⟩
  | .hbm, ⟨47, _⟩ => ⟨S512x512, .f32⟩
  | .hbm, ⟨48, _⟩ => ⟨S512x512, .f32⟩
  | .hbm, ⟨49, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_call1_v0 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Proof.Protocol.lean ====
/-
# 01_k — the protocol between the sixteen devices

Each device runs the same body. In order, device `c`

* signals the barrier semaphore of each of the other fifteen devices once, and waits for fifteen on its own;
* sends, at step `k`, rows `32·p … 32·p+31` of its partial result to slot `k` of device `p = c + k + 1` (mod 16);
* waits for each of its own fifteen slots, and adds the landed blocks to its own rows: the rows it is responsible for;
* sends those rows, at step `k`, to the same rows of device `p`'s gather buffer;
* waits for the fifteen blocks of the others, and for its own thirty sends.

A transfer writes into memory of another device, so the right to write there is handed over by the barrier: the
signal which device `d` makes at step `k` to device `p = d + k + 1` carries slot `14 - k` of `d` (the slot into which `p`
will send) and the rows `p` of `d`'s gather buffer.

This file fixes the names (devices, buffers, semaphores), the contents that travel, the schedule of each semaphore
(who pays it, how much, what is handed over), and the levels that order the waits.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.SparseCore.ProtocolKit
public import Idealize.ShloMosaic.Lib.Transfers
public import Idealize.ShloMosaic.Lib.Ring
public import Idealize.ShloMosaic.Lib.ValueIdxCore
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix2)
open Idealize.ShloMosaic.Pipeline (Dat Cfg Window BodyObligation cellOf)

variable {F : FTy → Type} [FloatOps F]

/-! ## The resource algebra -/

/-- Duties are named by a step. -/
abbrev Du : Type := Fin 15
abbrev UB : Type := URounds (GSem nD τ sig) Du
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter at zero. -/
def s₀ : MemSt nD τ sig (Elt F) := ⟨m, fun _ => 0, ρ⟩

/-! ## Devices -/

/-- The device to which `c` talks at step `k`. -/
def peer (k : Fin 15) (c : Dev nD) : Dev nD := ⟨(c.val + k.val + 1) % 16, Nat.mod_lt _ (by decide)⟩
/-- The step at which the peer of step `k` talks back. -/
def rev (k : Fin 15) : Fin 15 := ⟨14 - k.val, by omega⟩
/-- The device which talks to `c` at step `k`. -/
def src (k : Fin 15) (c : Dev nD) : Dev nD := peer (rev k) c

theorem rev_rev : ∀ k : Fin 15, rev (rev k) = k := by decide
theorem peer_rev_peer : ∀ (k : Fin 15) (c : Dev nD), peer (rev k) (peer k c) = c := by decide
theorem peer_peer_rev : ∀ (k : Fin 15) (c : Dev nD), peer k (peer (rev k) c) = c := by decide
theorem src_peer (k : Fin 15) (c : Dev nD) : src k (peer k c) = c := peer_rev_peer k c
theorem peer_src (k : Fin 15) (c : Dev nD) : peer k (src k c) = c := peer_peer_rev k c
theorem peer_inj (k : Fin 15) {c c' : Dev nD} (h : peer k c = peer k c') : c = c' := by
  rw [← peer_rev_peer k c, h, peer_rev_peer]
theorem peer_step_inj : ∀ (c : Dev nD) (k k' : Fin 15), peer k c = peer k' c → k = k' := by decide
theorem peer_ne : ∀ (c : Dev nD) (k : Fin 15), peer k c ≠ c := by decide
theorem exists_peer : ∀ (c d : Dev nD), d ≠ c → ∃ k : Fin 15, peer k c = d := by decide

/-! ## Buffers and their pieces -/

/-- The partial result, the receive slots, the gather buffer. -/
abbrev psM : Memref sig .tc .vmem S512x512 .bf16 := Memref.whole cc0_scratch0
abbrev rsM : Memref sig .tc .vmem S15x32x512 .bf16 := Memref.whole cc0_scratch1
abbrev agM : Memref sig .tc .vmem S512x512 .bf16 := Memref.whole cc0_scratch2

theorem chunk_inb : ∀ (d : Dev nD) (a : Fin 2), (![32 * d.val, 0] : Fin 2 → ℕ) a + S32x512.size a ≤ S512x512.size a := by decide
theorem slot_inb : ∀ (k : Fin 15) (a : Fin 3), (![k.val, 0, 0] : Fin 3 → ℕ) a + S1x32x512.size a ≤ S15x32x512.size a := by decide

/-- The rows `32·d … 32·d+31`. -/
abbrev chunkR (d : Dev nD) : Rect S512x512 := Rect.unit (s := S512x512) ![32 * d.val, 0] S32x512.size (chunk_inb d)
/-- Slot `k` of the receive buffer. -/
abbrev slotR (k : Fin 15) : Rect S15x32x512 := Rect.unit (s := S15x32x512) ![k.val, 0, 0] S1x32x512.size (slot_inb k)
abbrev psC (d : Dev nD) : Memref sig .tc .vmem S32x512 .bf16 := psM.slice (chunkR d) (fun _ => rfl)
abbrev agC (d : Dev nD) : Memref sig .tc .vmem S32x512 .bf16 := agM.slice (chunkR d) (fun _ => rfl)
abbrev slot (k : Fin 15) : Memref sig .tc .vmem S32x512 .bf16 := (rsM.slice (slotR k) (fun _ => rfl)).squeeze S32x512 squeezes_S1x32x512_S32x512

theorem psC_set (d : Dev nD) : (psC d).view.set = (chunkR d).set := View.set_slice_whole _ _
theorem agC_set (d : Dev nD) : (agC d).view.set = (chunkR d).set := View.set_slice_whole _ _
theorem slot_set (k : Fin 15) : (slot k).view.set = (slotR k).set :=
  (View.set_reshape (v := (rsM.slice (slotR k) (fun _ => rfl)).view) _).trans (View.set_slice_whole _ _)

/-- What one transfer moves, in the unit of the transfer semaphores. -/
abbrev N : ℕ := (psC 0).view.dmaCredit
theorem N_pos : 0 < N := View.dmaCredit_pos _ (by decide)

/-! ## Semaphores -/

/-- The runtime's barrier semaphore. -/
abbrev barS : Sem sig := (SemArray.scalar (sig.barrier 0 rfl) : Sems sig S_).sem

/-- A transfer semaphore by its stage (`false` the scatter, `true` the gather), its end (`false` the sender's, `true` the
    receiver's) and its step. -/
abbrev Xf : Type := Bool × Bool × Fin 15
def xsem (x : Xf) : DmaSem sig := (⟨6 + (if x.1 then 30 else 0) + (if x.2.1 then 15 else 0) + x.2.2.val, by
  show _ < 66
  have := x.2.2.isLt; split <;> split <;> omega⟩ : Fin 66)
/-- All the semaphores of the protocol on one device: the barrier's, and the transfers'. -/
abbrev CI : Type := Option Xf
def csem : CI → SemLoc sig
  | none => .reg barS
  | some x => .dma (xsem x)
/-- The name of a semaphore, if it is one of the protocol. -/
def dec : SemLoc sig → Option CI
  | .reg s => if s = barS then some none else none
  | .dma q =>
    let n : ℕ := (show Fin 66 from q).val
    if 6 ≤ n then some (some (decide (36 ≤ n), decide (15 ≤ (n - 6) % 30), ⟨(n - 6) % 15, Nat.mod_lt _ (by decide)⟩)) else none

theorem dec_csem : ∀ i : CI, dec (csem i) = some i := by decide
theorem csem_inj {i j : CI} (h : csem i = csem j) : i = j := Option.some.inj ((dec_csem i).symm.trans ((congrArg dec h).trans (dec_csem j)))

/-- A semaphore of device `c`. -/
abbrev cell (i : CI) (c : Dev nD) : GSem nD τ sig := ((c : Thread nD τ), csem i)
abbrev barCell (c : Dev nD) : GSem nD τ sig := ((c : Thread nD τ), .reg barS)
abbrev xfCell (x : Xf) (c : Dev nD) : GSem nD τ sig := ((c : Thread nD τ), .dma (xsem x))
abbrev kcell (ci : Dev nD × CI) : GSem nD τ sig := cell ci.2 ci.1
abbrev osem (x : Xf) : SemLoc sig := csem (some x)

theorem cell_ne_step {i j : CI} {c c' : Dev nD} (h : i ≠ j) : cell i c ≠ cell j c' := fun e => h (csem_inj (congrArg Prod.snd e))

theorem sem_arg9 : ∀ k : Fin 15, ((cc0_scratch3.slice (Rect.unit (s := S15) ![k.val] S1.size (by revert k; decide))).squeeze S_ squeezes_S1_S_).sem = xsem (false, false, k) := by decide
theorem sem_arg10 : ∀ k : Fin 15, ((cc0_scratch4.slice (Rect.unit (s := S15) ![k.val] S1.size (by revert k; decide))).squeeze S_ squeezes_S1_S_).sem = xsem (false, true, k) := by decide
theorem sem_arg11 : ∀ k : Fin 15, ((cc0_scratch5.slice (Rect.unit (s := S15) ![k.val] S1.size (by revert k; decide))).squeeze S_ squeezes_S1_S_).sem = xsem (true, false, k) := by decide
theorem sem_arg12 : ∀ k : Fin 15, ((cc0_scratch6.slice (Rect.unit (s := S15) ![k.val] S1.size (by revert k; decide))).squeeze S_ squeezes_S1_S_).sem = xsem (true, true, k) := by decide

/-! ## Contents -/

/-- The five arguments as the kernel reads them. -/
def xin (c : Dev nD) : (cc0_stg0_0 : Ref sig .tc).ty.Contents (Elt F) :=
  (win0_0.blk (0 : Fin 1)).view.read (Elt F) ((s₀ m ρ).mem ((c : Thread nD τ).loc main_arg0))
def rin (c : Dev nD) : (cc0_stg1_0 : Ref sig .tc).ty.Contents (Elt F) :=
  (win0_1.blk (0 : Fin 1)).view.read (Elt F) ((s₀ m ρ).mem ((c : Thread nD τ).loc main_arg1))
def iin (c : Dev nD) : (cc0_stg2_0 : Ref sig .tc).ty.Contents (Elt F) :=
  (win0_2.blk (0 : Fin 1)).view.read (Elt F) ((s₀ m ρ).mem ((c : Thread nD τ).loc main_arg2))
def win (c : Dev nD) : (cc0_stg3_0 : Ref sig .tc).ty.Contents (Elt F) :=
  (win0_3.blk (0 : Fin 1)).view.read (Elt F) ((s₀ m ρ).mem ((c : Thread nD τ).loc main_arg3))
def sin (c : Dev nD) : (cc0_stg4_0 : Ref sig .tc).ty.Contents (Elt F) :=
  (win0_4.blk (0 : Fin 1)).view.read (Elt F) ((s₀ m ρ).mem ((c : Thread nD τ).loc main_arg4))

/-- The two expert matrices of the device. -/
def w0 (c : Dev nD) : Vec F S1x256x512 .bf16 :=
  (Memref.whole cc0_stg3_0 : Memref sig .tc .vmem S2x256x512 .bf16).view.readAt (Elt F) (Rect.unit (s := S2x256x512) ![0, 0, 0] S1x256x512.size inb_S2x256x512_S1x256x512_0_0_0).toLoadRect (win m ρ c)
def w1 (c : Dev nD) : Vec F S1x256x512 .bf16 :=
  (Memref.whole cc0_stg3_0 : Memref sig .tc .vmem S2x256x512 .bf16).view.readAt (Elt F) (Rect.unit (s := S2x256x512) ![1, 0, 0] S1x256x512.size inb_S2x256x512_S1x256x512_1_0_0).toLoadRect (win m ρ c)

/-- The device's own number, as the kernel computes it. -/
def v2w (c : Dev nD) : BitVec 32 := Scalar.remsi (Scalar.divsi (Dev.word c) 1#32) 16#32

def probsv (c : Dev nD) : FVec F S512x32 .f32 := k0_pay3 (xin m ρ c) (rin m ρ c)
/-- The partial result of device `c`: its two experts' share of every token. -/
def psv (c : Dev nD) : FVec F S512x512 .bf16 :=
  k0_pay7 (k0_pay4 (k0_pay2 (xin m ρ c)) (w0 m ρ c) (w1 m ρ c))
    (k0_pay5 (v2w c) (k0_pay2 (xin m ρ c)) (probsv m ρ c) (w0 m ρ c) (w1 m ρ c) (iin m ρ c))
    (k0_pay6 (v2w c) (probsv m ρ c) (iin m ρ c))
/-- Rows `b` of device `a`'s partial result. -/
def piece (a b : Dev nD) : S32x512.Idx → Elt F .bf16 := (psC b).view.read (Elt F) (psv m ρ a)
/-- What lies in slot `k` of device `c`, as it is loaded. -/
def slab (c : Dev nD) (k : Fin 15) : Vec F S1x32x512 .bf16 :=
  shapeCast S1x32x512 (piece m ρ (src k c) c) (by decide)
/-- The summed rows `c`. -/
def redv (c : Dev nD) : FVec F S32x512 .bf16 :=
  k0_pay15 (k0_pay14 (k0_pay13 (k0_pay12 (k0_pay11 (k0_pay10 (k0_pay9 (piece m ρ c c)
    (slab m ρ c 0)) (slab m ρ c 1) (slab m ρ c 2)) (slab m ρ c 3) (slab m ρ c 4) (slab m ρ c 5)) (slab m ρ c 6) (slab m ρ c 7))
    (slab m ρ c 8) (slab m ρ c 9) (slab m ρ c 10)) (slab m ρ c 11) (slab m ρ c 12)) (slab m ρ c 13) (slab m ρ c 14)
/-- The gather buffer when it is full: the same on every device. -/
def agFull : (cc0_scratch2 : Ref sig .tc).ty.Contents (Elt F) := fun i =>
  redv m ρ (⟨((i : S512x512.Idx) 0).val / 32, by have h : ((i : S512x512.Idx) 0).val < 512 := ((i : S512x512.Idx) 0).isLt; show _ < 16; omega⟩)
    (ix2 ⟨((i : S512x512.Idx) 0).val % 32, Nat.mod_lt _ (by decide)⟩ ⟨((i : S512x512.Idx) 1).val, ((i : S512x512.Idx) 1).isLt⟩)
/-- The result. -/
def outv (c : Dev nD) : (cc0_stg5_0 : Ref sig .tc).ty.Contents (Elt F) :=
  k0_pay1 (k0_pay8 (k0_pay2 (xin m ρ c)) (sin m ρ c)) (agFull m ρ)

/-! ## Points-tos of the pieces -/

def psPts (c d : Dev nD) : sProp 𝕄 :=
  (psC d).view.loc (c : Thread nD τ) ↦[(psC d).view.set]{fullShare} (psv m ρ c)
/-- Rows `d` of device `c`'s gather buffer, any contents. -/
def agOpen (c d : Dev nD) : sProp 𝕄 :=
  iprop(∃ f : Buf (Elt F) ((agC d).view.loc (c : Thread nD τ)), (agC d).view.loc (c : Thread nD τ) ↦[(agC d).view.set]{fullShare} f)
/-- The same rows with the final contents, at a share. -/
def agPts (c d : Dev nD) (q : PosShare TreeShare) : sProp 𝕄 :=
  (agC d).view.loc (c : Thread nD τ) ↦[(agC d).view.set]{q} (agFull m ρ)
def slotOpen (c : Dev nD) (k : Fin 15) : sProp 𝕄 :=
  iprop(∃ f : Buf (Elt F) ((slot k).view.loc (c : Thread nD τ)), (slot k).view.loc (c : Thread nD τ) ↦[(slot k).view.set]{fullShare} f)
/-- Slot `k` after the landing: the sender's rows `c`. -/
def slotPts (c : Dev nD) (k : Fin 15) : sProp 𝕄 :=
  iprop(∃ f : Buf (Elt F) ((slot k).view.loc (c : Thread nD τ)), ⌜(slot k).view.read (Elt F) f = piece m ρ (src k c) c⌝
    ∗ (slot k).view.loc (c : Thread nD τ) ↦[(slot k).view.set]{fullShare} f)
/-- The share at which step `k` sends the summed rows. -/
def agShare (k : Fin 15) : PosShare TreeShare := Transfers.dealOf fullShare Finset.univ k

instance psPts_storable (c d) : BI.Storable (upEmb : UEmb _ 𝕄) (psPts (F := F) m ρ c d) := by unfold psPts; infer_instance
omit [FloatOps F] in
instance agOpen_storable (c d) : BI.Storable (upEmb : UEmb _ 𝕄) (agOpen (F := F) c d) := by unfold agOpen; infer_instance
instance agPts_storable (c d q) : BI.Storable (upEmb : UEmb _ 𝕄) (agPts (F := F) m ρ c d q) := by unfold agPts; infer_instance
omit [FloatOps F] in
instance slotOpen_storable (c k) : BI.Storable (upEmb : UEmb _ 𝕄) (slotOpen (F := F) c k) := by unfold slotOpen; infer_instance
instance slotPts_storable (c k) : BI.Storable (upEmb : UEmb _ 𝕄) (slotPts (F := F) m ρ c k) := by unfold slotPts; infer_instance

/-! ## The schedule -/

/-- What a semaphore's payment of duty `d` hands to device `c`, whose semaphore it is. -/
def pay (c : Dev nD) (d : Du) : CI → sProp 𝕄
  | none => iprop(slotOpen (peer d c) d ∗ agOpen (peer d c) c)
  | some (false, false, k) => psPts m ρ c (peer k c)
  | some (false, true, k) => slotPts m ρ c k
  | some (true, false, k) => agPts m ρ c c (agShare k)
  | some (true, true, k) => agPts m ρ c (src k c) fullShare

instance pay_storable (c d i) : BI.Storable (upEmb : UEmb _ 𝕄) (pay (F := F) m ρ c d i) := by
  rcases i with _ | ⟨_ | _, _ | _, k⟩ <;> unfold pay <;> infer_instance

def dut : Option CI → Finset Du
  | some none => Finset.univ
  | some (some _) => {0}
  | none => ∅
def amt : Option CI → ℕ
  | some none => 1
  | _ => N

/-- One round. The barrier has a duty of one unit for every other device; a transfer semaphore the one duty of a transfer. -/
def Rd : Rounds.Schedule (GSem nD τ sig) Du 𝕄 where
  duties g r := if r = 0 ∧ g.1.2 = .tc then dut (dec g.2) else ∅
  unitless _ := False
  amount g _ _ := amt (dec g.2)
  payload g _ d := match dec g.2 with
    | some i => pay m ρ g.1.1 d i
    | none => iprop(emp)
  amount_pos g _ _ _ := by
    unfold amt; split
    · exact Nat.one_pos
    · exact N_pos

instance Rd_payload_storable (g : GSem nD τ sig) (r : ℕ) (d : Du) :
    BI.Storable (upEmb : UEmb _ 𝕄) ((Rd (F := F) m ρ).payload g r d) := by
  show BI.Storable upEmb (match dec g.2 with | some i => pay m ρ g.1.1 d i | none => iprop(emp))
  split <;> infer_instance

section Sched
variable (c : Dev nD)

theorem duties_cell (i : CI) : (Rd (F := F) m ρ).duties (cell i c) 0 = dut (some i) := by
  show (if (0 : ℕ) = 0 ∧ (cell i c).1.2 = .tc then dut (dec (csem i)) else ∅) = _
  rw [dec_csem]; exact if_pos ⟨rfl, rfl⟩
theorem duties_bar : (Rd (F := F) m ρ).duties (barCell c) 0 = Finset.univ := duties_cell m ρ c none
theorem duties_xf (x : Xf) : (Rd (F := F) m ρ).duties (xfCell x c) 0 = {0} := duties_cell m ρ c (some x)
theorem duties_later (g : GSem nD τ sig) : ∀ r, 1 ≤ r → (Rd (F := F) m ρ).duties g r = ∅ :=
  fun r hr => if_neg fun h => by omega

theorem amount_bar (d : Du) : (Rd (F := F) m ρ).amount (barCell c) 0 d = 1 := by
  show amt (dec (csem none)) = 1; rw [dec_csem]; rfl
theorem amount_xf (x : Xf) (d : Du) : (Rd (F := F) m ρ).amount (xfCell x c) 0 d = N := by
  show amt (dec (csem (some x))) = N; rw [dec_csem]; rfl

theorem expect_bar : (Rd (F := F) m ρ).expect (barCell c) 0 = 15 := by
  unfold Schedule.expect Schedule.amountOf
  rw [duties_bar, Finset.sum_congr rfl fun d _ => amount_bar m ρ c d, Finset.sum_const, Finset.card_univ, Fintype.card_fin, smul_eq_mul]
theorem expect_xf (x : Xf) : (Rd (F := F) m ρ).expect (xfCell x c) 0 = N := by
  unfold Schedule.expect Schedule.amountOf; rw [duties_xf, Finset.sum_singleton, amount_xf]

theorem payload_cell (i : CI) (d : Du) : (Rd (F := F) m ρ).payload (cell i c) 0 d = pay m ρ c d i := by
  show (match dec (csem i) with | some i => pay m ρ c d i | none => iprop(emp)) = _
  rw [dec_csem]
theorem payload_bar (d : Du) : (Rd (F := F) m ρ).payload (barCell c) 0 d = pay m ρ c d none := payload_cell m ρ c none d
theorem payload_xf (x : Xf) (d : Du) : (Rd (F := F) m ρ).payload (xfCell x c) 0 d = pay m ρ c d (some x) := payload_cell m ρ c (some x) d

theorem rest_bar : bigSep ((Rd (F := F) m ρ).duties (barCell c) 0 \ ∅) (fun d => (Rd (F := F) m ρ).payload (barCell c) 0 d)
    = bigSep Finset.univ fun d => iprop(slotOpen (peer d c) d ∗ agOpen (peer d c) c) := by
  rw [Finset.sdiff_empty, duties_bar]; exact bigSep_congr fun d _ => payload_cell m ρ c none d
theorem rest_xf (x : Xf) : bigSep ((Rd (F := F) m ρ).duties (xfCell x c) 0 \ ∅) (fun d => (Rd (F := F) m ρ).payload (xfCell x c) 0 d)
    = pay m ρ c 0 (some x) := by
  rw [Finset.sdiff_empty, duties_xf, bigSep_singleton, payload_xf]

end Sched

/-! ## What each device owes at launch; the levels -/

/-- What `c` owes to the receiving end of stage `p` at its peer of step `k`. -/
def owR (p : Bool) (c : Dev nD) (k : Fin 15) : CellTallies nD τ sig Unit := tallyAt (xfCell (p, true, k) (peer k c)) () N
def owB (c : Dev nD) (k : Fin 15) : CellTallies nD τ sig Unit := tallyAt (barCell (peer k c)) () 1

/-- What is owed before step `n` of the gather; of the scatter; of the signals. -/
def oG (c : Dev nD) (n : ℕ) : CellTallies nD τ sig Unit := 0 + ∑ k ∈ finFrom 15 n, owR true c k
def oS (c : Dev nD) (n : ℕ) : CellTallies nD τ sig Unit := oG c 0 + ∑ k ∈ finFrom 15 n, owR false c k
def oB (c : Dev nD) (n : ℕ) : CellTallies nD τ sig Unit := oS c 0 + ∑ k ∈ finFrom 15 n, owB c k

theorem oG_end (c : Dev nD) : oG c 15 = 0 := by unfold oG; rw [sum_finFrom_self, zero_add]
theorem oS_end (c : Dev nD) : oS c 15 = oG c 0 := by unfold oS; rw [sum_finFrom_self, add_zero]
theorem oB_end (c : Dev nD) : oB c 15 = oS c 0 := by unfold oB; rw [sum_finFrom_self, add_zero]

def L (g : GSem nD τ sig) : Finset Unit := if g.1.2 = .tc then {()} else ∅
/-- The barrier below the scatter's landings, these below the gather's; the rest, on which a device waits owing nothing
    that could block it, at the bottom. -/
def lvi : Option CI → ℕ
  | some none => 1
  | some (some (false, true, _)) => 2
  | some (some (true, true, _)) => 3
  | _ => 0
def lv (g : GSem nD τ sig) (_ : Unit) : ℕ := lvi (dec g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (i : CI) (c : Dev nD) (u : Unit) : lv (cell i c) u = lvi (some i) := by unfold lv; rw [dec_csem]

theorem lv_bar (c : Dev nD) (u : Unit) : lv (barCell c) u = 1 := lv_cell none c u
theorem lv_xf (x : Xf) (c : Dev nD) (u : Unit) : lv (xfCell x c) u = lvi (some (some x)) := lv_cell (some x) c u

theorem sum_tally_pos {ι : Type} (s : Finset ι) (f : ι → CellTallies nD τ sig Unit) {g : GSem nD τ sig} {u : Unit}
    (h : 0 < (∑ k ∈ s, f k) g u) : ∃ k ∈ s, 0 < f k g u := by
  by_contra hn
  rw [Finset.sum_apply, Finsupp.finset_sum_apply] at h
  rw [Finset.sum_eq_zero fun k hk => Nat.eq_zero_of_not_pos fun hp => hn ⟨k, hk, hp⟩] at h
  exact Nat.lt_irrefl 0 h
theorem tally_pos {g' g : GSem nD τ sig} {u : Unit} {n : ℕ} (h : 0 < tallyAt (nD := nD) (τ := τ) (sig := sig) g' () n g u) : g = g' := by
  rw [tallyAt_apply] at h
  by_contra hn
  rw [if_neg fun h' => hn h'.1] at h
  exact Nat.lt_irrefl 0 h
theorem add_tally_pos {A B : CellTallies nD τ sig Unit} {g : GSem nD τ sig} {u : Unit} (h : 0 < (A + B) g u) : 0 < A g u ∨ 0 < B g u := by
  rw [Pi.add_apply, Finsupp.add_apply] at h; omega

/-- Everything in `O` is owed at a level above `n`, to a TensorCore. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem Above.add {n : ℕ} {A B : CellTallies nD τ sig Unit} (hA : Above n A) (hB : Above n B) : Above n (A + B) :=
  fun g u h => (add_tally_pos h).elim (hA g u) (hB g u)
theorem above_sum {n : ℕ} {ι : Type} (s : Finset ι) {f : ι → CellTallies nD τ sig Unit} (h : ∀ k, Above n (f k)) : Above n (∑ k ∈ s, f k) :=
  fun g u hg => by obtain ⟨k, -, hk⟩ := sum_tally_pos s f hg; exact h k g u hk
theorem above_tally {n : ℕ} (i : CI) (c : Dev nD) (N : ℕ) (h : n < lvi (some i)) : Above n (tallyAt (cell i c) () N) :=
  fun g u hg => by rw [tally_pos hg]; exact ⟨rfl, by rw [lv_cell]; exact h⟩
theorem above_oG (c : Dev nD) (n : ℕ) : Above 2 (oG c n) :=
  (above_zero 2).add (above_sum _ fun k => above_tally (some (true, true, k)) _ _ (show 2 < 3 by decide))
theorem Above.mono {n n' : ℕ} (h : n' ≤ n) {O : CellTallies nD τ sig Unit} (hO : Above n O) : Above n' O :=
  fun g u hg => ⟨(hO g u hg).1, h.trans_lt (hO g u hg).2⟩
theorem above_oS (c : Dev nD) (n : ℕ) : Above 1 (oS c n) :=
  ((above_oG c 0).mono (by decide)).add (above_sum _ fun k => above_tally (some (false, true, k)) _ _ (show 1 < 2 by decide))
theorem above_oB (c : Dev nD) (n : ℕ) : Above 0 (oB c n) :=
  ((above_oS c 0).mono (by decide)).add (above_sum _ fun k => above_tally none _ _ (show 0 < 1 by decide))

/-- A device may wait at a semaphore below all it owes. -/
theorem mayWait (c : Dev nD) (sm : SemLoc sig) (O : CellTallies nD τ sig Unit) (hO : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by rw [show L g = {()} from if_pos (hO g u hg).1]; exact Finset.mem_singleton_self _)
    (fun p hp => by rw [Finset.mem_singleton.mp hp])
    (fun g u hg => (hO g u hg).2)

end Cert.Moe

end

end
-- ==== Proof.Steps.lean ====
/-
# 01_k — one rule for each kind of step

The body repeats five kinds of step, each fifteen times: a signal to a peer, a transfer of the scatter, a transfer of the
gather, a wait for a transfer semaphore, a load of a landed slot. Each has here one rule, at a symbolic device and a symbolic
step `k`. What such a loop has still to do, and what it has done, is one family over the steps `k, …, 14` and one over
the steps `0, …, k - 1`.
-/
module

public import proofs.«01_k».proof.Proof.Protocol

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix2)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What every device knows -/

/-- The invariant of every semaphore of the protocol, and that each is at its round. -/
def records (K : Dev nD × CI → ℕ) : sProp 𝕄 :=
  iprop(bigSep Finset.univ (fun ci => cellInv ER (Rd m ρ) (K ci) (kcell ci)) ∗ bigSep Finset.univ (fun ci => reached ER (kcell ci) 0))

instance records_persistent (K : Dev nD × CI → ℕ) : BI.Persistent (records m ρ K) := by unfold records; infer_instance

theorem records_inv (K : Dev nD × CI → ℕ) (i : CI) (c : Dev nD) : records m ρ K ⊢ cellInv ER (Rd m ρ) (K (c, i)) (cell i c) := by
  unfold records
  iintro ⟨H, -⟩
  iapply (show bigSep Finset.univ (fun ci => cellInv ER (Rd m ρ) (K ci) (kcell ci)) ⊢ cellInv ER (Rd m ρ) (K (c, i)) (cell i c) from bigSep_elim (Finset.mem_univ (c, i))); iexact H
theorem records_reached (K : Dev nD × CI → ℕ) (i : CI) (c : Dev nD) : records m ρ K ⊢ reached ER (cell i c) 0 := by
  unfold records
  iintro ⟨-, H⟩
  iapply (show bigSep Finset.univ (fun ci => (reached ER (kcell ci) 0 : sProp 𝕄)) ⊢ reached ER (cell i c) 0 from bigSep_elim (Finset.mem_univ (c, i))); iexact H

/-- What device `c` owes, whatever it has waited for. -/
def Ow (c : Dev nD) (O : CellTallies nD τ sig Unit) : sProp 𝕄 := iprop(∃ W : Waits sig Unit, owes (c : Thread nD τ) O W)

theorem inv_bar (K : Dev nD × CI → ℕ) (c : Dev nD) : records m ρ K ⊢ cellInv ER (Rd m ρ) (K (c, none)) (barCell c) := records_inv m ρ K none c
theorem inv_xf (K : Dev nD × CI → ℕ) (x : Xf) (c : Dev nD) : records m ρ K ⊢ cellInv ER (Rd m ρ) (K (c, some x)) (xfCell x c) := records_inv m ρ K (some x) c
theorem reached_bar (K : Dev nD × CI → ℕ) (c : Dev nD) : records m ρ K ⊢ reached ER (barCell c) 0 := records_reached m ρ K none c
theorem reached_xf (K : Dev nD × CI → ℕ) (x : Xf) (c : Dev nD) : records m ρ K ⊢ reached ER (xfCell x c) 0 := records_reached m ρ K (some x) c

theorem setOn_whole (b : Ref sig .tc) (M : Finset b.ty.shape.Idx) : (View.whole b).setOn M = M := Finset.map_refl

/-! ## A signal -/

/-- Before signal `n`: the duty of each signal still to be made, and what it hands over. -/
def sigSt (c : Dev nD) (n : ℕ) : sProp 𝕄 :=
  bigSep (finFrom 15 n) fun k => iprop(dutyTok ER (barCell (peer k c)) 0 (rev k) ∗ slotOpen c (rev k) ∗ agOpen c (peer k c))

/-- What signal `k` of device `c` hands over. -/
theorem payload_signal (c : Dev nD) (k : Fin 15) :
    (Rd (F := F) m ρ).payload (barCell (peer k c)) 0 (rev k) = iprop(slotOpen c (rev k) ∗ agOpen c (peer k c)) := by
  rw [payload_bar]; unfold pay; rw [peer_rev_peer]

theorem step_signal (K : Dev nD × CI → ℕ) (c n : Dev nD) (k : ℕ) (hk : k < 15) (hn : n = peer ⟨k, hk⟩ c)
    {α : Type} {Q : α → sProp 𝕄} {kt : PUnit → Prog (TpuEff nD τ sig (Elt F) Λ₀ .tc) α} :
    iprop(records m ρ K ∗ Ow c (oB c k) ∗ sigSt c k)
      ⊢ iprop(((Ow c (oB c (k + 1)) ∗ sigSt c (k + 1)) -∗ wp frame (wpE (defs₀ (F := F)) 𝒱₀ (c : Thread nD τ) none) Set.univ (kt ⟨⟩) Q)
        -∗ wp frame (wpE (defs₀ (F := F)) 𝒱₀ (c : Thread nD τ) none) Set.univ (.op (.semSignal (n, .tc) barS (1#32 : BitVec 32).toInt) kt) Q) := by
  subst hn
  unfold sigSt Ow
  rw [bigSep_finFrom_succ hk]
  iintro ⟨#HR, ⟨%W, HO⟩, ⟨Htok, Hsl, Hag⟩, Hrest⟩ Hk
  iapply (Rounds.wp_signal 𝒱₀ ER (Rd m ρ) (c : Thread nD τ) none (dst := (peer ⟨k, hk⟩ c : Thread nD τ)) (sem := barS) (κ := K (peer ⟨k, hk⟩ c, none))
      (d := rev ⟨k, hk⟩) (r := 0) (k' := 1) (by rw [duties_bar]; exact Finset.mem_univ _) (amount_bar m ρ (peer ⟨k, hk⟩ c) _) ()
      (oB c (k + 1)) (add_sum_finFrom_succ (oS c 0) hk (owB c)) (W := W)) $$ [HO Htok Hsl Hag]
  · isplitr; · iapply (inv_bar m ρ K (peer ⟨k, hk⟩ c)); iexact HR
    isplitl [HO]; · iexact HO
    isplitl [Htok]; · iexact Htok
    isplitl [Hsl Hag]
    · rw [payload_signal]
      isplitl [Hsl] <;> iassumption
    iapply (reached_bar m ρ K (peer ⟨k, hk⟩ c)); iexact HR
  iintro HO
  iapply Hk
  isplitl [HO]
  · iexists W; iexact HO
  iexact Hrest

/-! ## A transfer -/

/-- Before transfer `n` of stage `p`: for each still to be made the two duties, the rows to send and the right to write their
    destination; for each made the credit of its sender's semaphore. -/
def sendSt (p : Bool) (dst : Fin 15 → sProp 𝕄) (c : Dev nD) (n : ℕ) : sProp 𝕄 :=
  iprop(bigSep (finFrom 15 n) (fun k => iprop(dutyTok ER (xfCell (p, false, k) c) 0 0 ∗ dutyTok ER (xfCell (p, true, k) (peer k c)) 0 0
      ∗ pay m ρ c 0 (some (p, false, k)) ∗ dst k))
    ∗ bigSep (finUpTo 15 n) (fun k => cred (tallyAt (xfCell (p, false, k) c) () N)))

/-- The rows a transfer of the scatter reads, -/
theorem pay_ps (c : Dev nD) (k : Fin 15) : pay m ρ c 0 (some (false, false, k))
    = (psC (peer k c)).view.loc (c : Thread nD τ) ↦[(psC (peer k c)).view.set]{fullShare} (psv m ρ c) := rfl
/-- the rows a transfer of the gather reads, and what it leaves at the receiver. -/
theorem pay_ag (c : Dev nD) (k : Fin 15) : pay m ρ c 0 (some (true, false, k))
    = (agC c).view.loc (c : Thread nD τ) ↦[(agC c).view.set]{agShare k} (agFull m ρ) := rfl
theorem pay_agR (c : Dev nD) (k : Fin 15) : pay m ρ c 0 (some (true, true, k)) = agPts m ρ c (src k c) fullShare := rfl

/-- Rows landed in a slot. -/
theorem landed_slot (c : Dev nD) (k : Fin 15) (fd : Buf (Elt F) ((slot k).view.loc (peer k c : Thread nD τ))) :
    ((slot k).view.loc (peer k c : Thread nD τ) ↦[(slot k).view.set]{fullShare}
        ((slot k).view.write (Elt F) fd ((psC (peer k c)).view.read (Elt F) (psv m ρ c)) Finset.univ) : sProp 𝕄)
      ⊢ slotPts m ρ (peer k c) k := by
  unfold slotPts
  iintro H
  iexists ((slot k).view.write (Elt F) fd ((psC (peer k c)).view.read (Elt F) (psv m ρ c)) Finset.univ)
  isplitr
  · ipureintro
    rw [src_peer]; exact View.read_write_univ _ _
  iexact H

/-- Rows `c` of the gather buffer, sent to the same rows of another device's. -/
theorem landed_ag (c n : Dev nD) (fd : Buf (Elt F) ((agC c).view.loc (n : Thread nD τ))) :
    ((agC c).view.loc (n : Thread nD τ) ↦[(agC c).view.set]{fullShare}
        ((agC c).view.write (Elt F) fd ((agC c).view.read (Elt F) (agFull m ρ)) Finset.univ) : sProp 𝕄)
      ⊢ agPts m ρ n c fullShare := by
  unfold agPts
  refine Entails.of_eq (pointsTo_congr fun i hi => ?_)
  rw [View.write_read_eq_piecewise]
  exact Finset.piecewise_eq_of_mem _ _ _ hi

theorem step_scatter (K : Dev nD × CI → ℕ) (c n : Dev nD) (k : ℕ) (hk : k < 15) (hn : n = peer ⟨k, hk⟩ c)
    {M : Memref sig .tc .vmem S32x512 .bf16} (hM : M = psC (peer ⟨k, hk⟩ c))
    {sS sR : DmaSem sig} (hsS : sS = xsem (false, false, ⟨k, hk⟩)) (hsR : sR = xsem (false, true, ⟨k, hk⟩))
    {hsc : (slot ⟨k, hk⟩ : Memref sig (Dev.tc n : Thread nD τ).2.kind .vmem S32x512 .bf16).view.ref.isScScratch = false}
    {hsrc : M.view.WordExact} {hdst : (slot ⟨k, hk⟩ : Memref sig .tc .vmem S32x512 .bf16).view.WordExact}
    {hsem : DmaTarget.Typed .vmem (.dma sR) (.remote (Dev.tc n : Thread nD τ) (slot ⟨k, hk⟩ : Memref sig .tc .vmem S32x512 .bf16) (.dma sS) hsc)}
    {α : Type} {Q : α → sProp 𝕄} {kt : PUnit → Prog (TpuEff nD τ sig (Elt F) Λ₀ .tc) α} :
    iprop(records m ρ K ∗ Ow c (oS c k) ∗ sendSt m ρ false (fun k => slotOpen (peer k c) k) c k)
      ⊢ iprop(((Ow c (oS c (k + 1)) ∗ sendSt m ρ false (fun k => slotOpen (peer k c) k) c (k + 1)) -∗ wp frame (wpE (defs₀ (F := F)) 𝒱₀ (c : Thread nD τ) none) Set.univ (kt ⟨⟩) Q)
        -∗ wp frame (wpE (defs₀ (F := F)) 𝒱₀ (c : Thread nD τ) none) Set.univ
            (.op (.enqueueDma M (.remote (Dev.tc n : Thread nD τ) (slot ⟨k, hk⟩) (.dma sS) hsc) (.dma sR) hsrc hdst hsem) kt) Q) := by
  subst hn hM hsS hsR
  unfold sendSt Ow
  rw [bigSep_finFrom_succ hk, bigSep_finUpTo_succ hk]
  unfold slotOpen
  iintro ⟨#HR, ⟨%W, HO⟩, ⟨⟨HtS, HtR, Hsrc, ⟨%fd, Hdst⟩⟩, Hrest⟩, Hcr⟩ Hk
  iapply (Rounds.wp_send_pointsTo 𝒱₀ ER (Rd m ρ) (c : Thread nD τ) none (κ₁ := K (c, some (false, false, ⟨k, hk⟩))) (κ₂ := K (peer ⟨k, hk⟩ c, some (false, true, ⟨k, hk⟩)))
    (c' := (Dev.tc (peer ⟨k, hk⟩ c) : Thread nD τ)) (src := psC (peer ⟨k, hk⟩ c)) (dst := slot ⟨k, hk⟩) (sS := .dma (xsem (false, false, ⟨k, hk⟩))) (sem := .dma (xsem (false, true, ⟨k, hk⟩)))
    (r₁ := 0) (r₂ := 0) (d₁ := 0) (d₂ := 0) (fd := fd) (fs := psv m ρ c) (q := fullShare)
    (by rw [duties_xf]; exact Finset.mem_singleton_self _)
    (by rw [duties_xf]; exact Finset.mem_singleton_self _)
    () () N rfl (amount_xf m ρ c (false, false, ⟨k, hk⟩) 0) (amount_xf m ρ (peer ⟨k, hk⟩ c) (false, true, ⟨k, hk⟩) 0)
    (oS c (k + 1)) (add_sum_finFrom_succ (oG c 0) hk (owR false c)) (W := W)
    (by rw [payload_xf]; exact BI.Entails.refl _)
    (by rw [payload_xf]; exact landed_slot m ρ c ⟨k, hk⟩ fd))
    $$ [HO HtS HtR Hsrc Hdst]
  · isplitr; · iapply (inv_xf m ρ K (false, false, ⟨k, hk⟩) c); iexact HR
    isplitr; · iapply (inv_xf m ρ K (false, true, ⟨k, hk⟩) (peer ⟨k, hk⟩ c)); iexact HR
    isplitl [Hsrc]; · rw [← pay_ps m ρ c ⟨k, hk⟩]; iexact Hsrc
    isplitl [Hdst]; · iexact Hdst
    isplitl [HO]; · iexact HO
    isplitl [HtS]; · iexact HtS
    isplitr; · iapply (reached_xf m ρ K (false, false, ⟨k, hk⟩) c); iexact HR
    isplitl [HtR]; · iexact HtR
    iapply (reached_xf m ρ K (false, true, ⟨k, hk⟩) (peer ⟨k, hk⟩ c)); iexact HR
  iintro ⟨Hc, HO⟩
  iapply Hk
  isplitl [HO]; · iexists W; iexact HO
  isplitl [Hrest]; · iexact Hrest
  isplitl [Hc]; · iexact Hc
  iexact Hcr

theorem step_gather (K : Dev nD × CI → ℕ) (c n : Dev nD) (k : ℕ) (hk : k < 15) (hn : n = peer ⟨k, hk⟩ c)
    {M : Memref sig .tc .vmem S32x512 .bf16} (hM : M = agC c)
    {sS sR : DmaSem sig} (hsS : sS = xsem (true, false, ⟨k, hk⟩)) (hsR : sR = xsem (true, true, ⟨k, hk⟩))
    {hsc : (M : Memref sig (Dev.tc n : Thread nD τ).2.kind .vmem S32x512 .bf16).view.ref.isScScratch = false}
    {hsrc : M.view.WordExact} {hdst : (M : Memref sig .tc .vmem S32x512 .bf16).view.WordExact}
    {hsem : DmaTarget.Typed .vmem (.dma sR) (.remote (Dev.tc n : Thread nD τ) (M : Memref sig .tc .vmem S32x512 .bf16) (.dma sS) hsc)}
    {α : Type} {Q : α → sProp 𝕄} {kt : PUnit → Prog (TpuEff nD τ sig (Elt F) Λ₀ .tc) α} :
    iprop(records m ρ K ∗ Ow c (oG c k) ∗ sendSt m ρ true (fun k => agOpen (peer k c) c) c k)
      ⊢ iprop(((Ow c (oG c (k + 1)) ∗ sendSt m ρ true (fun k => agOpen (peer k c) c) c (k + 1)) -∗ wp frame (wpE (defs₀ (F := F)) 𝒱₀ (c : Thread nD τ) none) Set.univ (kt ⟨⟩) Q)
        -∗ wp frame (wpE (defs₀ (F := F)) 𝒱₀ (c : Thread nD τ) none) Set.univ
            (.op (.enqueueDma M (.remote (Dev.tc n : Thread nD τ) M (.dma sS) hsc) (.dma sR) hsrc hdst hsem) kt) Q) := by
  subst hn hM hsS hsR
  unfold sendSt Ow
  rw [bigSep_finFrom_succ hk, bigSep_finUpTo_succ hk]
  unfold agOpen
  iintro ⟨#HR, ⟨%W, HO⟩, ⟨⟨HtS, HtR, Hsrc, ⟨%fd, Hdst⟩⟩, Hrest⟩, Hcr⟩ Hk
  iapply (Rounds.wp_send_pointsTo 𝒱₀ ER (Rd m ρ) (c : Thread nD τ) none (κ₁ := K (c, some (true, false, ⟨k, hk⟩))) (κ₂ := K (peer ⟨k, hk⟩ c, some (true, true, ⟨k, hk⟩)))
    (c' := (Dev.tc (peer ⟨k, hk⟩ c) : Thread nD τ)) (src := agC c) (dst := agC c) (sS := .dma (xsem (true, false, ⟨k, hk⟩))) (sem := .dma (xsem (true, true, ⟨k, hk⟩)))
    (r₁ := 0) (r₂ := 0) (d₁ := 0) (d₂ := 0) (fd := fd) (fs := agFull m ρ) (q := agShare ⟨k, hk⟩)
    (by rw [duties_xf]; exact Finset.mem_singleton_self _)
    (by rw [duties_xf]; exact Finset.mem_singleton_self _)
    () () N rfl (amount_xf m ρ c (true, false, ⟨k, hk⟩) 0) (amount_xf m ρ (peer ⟨k, hk⟩ c) (true, true, ⟨k, hk⟩) 0)
    (oG c (k + 1)) (add_sum_finFrom_succ 0 hk (owR true c)) (W := W)
    (by rw [payload_xf]; exact BI.Entails.refl _)
    (by rw [payload_xf]; rw [pay_agR, src_peer]; exact landed_ag m ρ c (peer ⟨k, hk⟩ c) fd))
    $$ [HO HtS HtR Hsrc Hdst]
  · isplitr; · iapply (inv_xf m ρ K (true, false, ⟨k, hk⟩) c); iexact HR
    isplitr; · iapply (inv_xf m ρ K (true, true, ⟨k, hk⟩) (peer ⟨k, hk⟩ c)); iexact HR
    isplitl [Hsrc]; · rw [← pay_ag m ρ c ⟨k, hk⟩]; iexact Hsrc
    isplitl [Hdst]; · iexact Hdst
    isplitl [HO]; · iexact HO
    isplitl [HtS]; · iexact HtS
    isplitr; · iapply (reached_xf m ρ K (true, false, ⟨k, hk⟩) c); iexact HR
    isplitl [HtR]; · iexact HtR
    iapply (reached_xf m ρ K (true, true, ⟨k, hk⟩) (peer ⟨k, hk⟩ c)); iexact HR
  iintro ⟨Hc, HO⟩
  iapply Hk
  isplitl [HO]; · iexists W; iexact HO
  isplitl [Hrest]; · iexact Hrest
  isplitl [Hc]; · iexact Hc
  iexact Hcr

/-! ## A wait for a transfer semaphore -/

/-- Before wait `n` at the semaphores of stage `p`, end `r`: the credit and the position of each still to be waited for; the
    position of each past, and what its transfer handed over. -/
def waitSt (p r : Bool) (c : Dev nD) (n : ℕ) : sProp 𝕄 :=
  iprop(bigSep (finFrom 15 n) (fun k => iprop(cred (tallyAt (xfCell (p, r, k) c) () N) ∗ atPos ER (xfCell (p, r, k) c) 0 ∅ 0))
    ∗ bigSep (finUpTo 15 n) (fun k => iprop(atPos ER (xfCell (p, r, k) c) (0 + 1) ∅ 0 ∗ pay m ρ c 0 (some (p, r, k)))))

theorem step_wait (K : Dev nD × CI → ℕ) (p r : Bool) (c : Dev nD) (k : ℕ) (hk : k < 15) (O : CellTallies nD τ sig Unit)
    (hO : Above (lvi (some (some (p, r, ⟨k, hk⟩)))) O)
    {sm : DmaSem sig} (hsm : sm = xsem (p, r, ⟨k, hk⟩))
    {sp sp' : Space} {s s' : Shape} {e e' : EltTy} {κ' : Kind} {src : Memref sig (c : Thread nD τ).2.kind sp' s' e'} {dst : Memref sig κ' sp s e}
    {hsrc : src.view.WordExact} {hdst : dst.view.WordExact} (hN : dst.view.dmaCredit = N)
    {α : Type} {Q : α → sProp 𝕄} {kt : PUnit → Prog (TpuEff nD τ sig (Elt F) Λ₀ .tc) α} :
    iprop(records m ρ K ∗ levAts L lv ∗ Ow c O ∗ waitSt m ρ p r c k)
      ⊢ iprop(((Ow c O ∗ waitSt m ρ p r c (k + 1)) -∗ wp frame (wpE (defs₀ (F := F)) 𝒱₀ (c : Thread nD τ) none) Set.univ (kt ⟨⟩) Q)
        -∗ wp frame (wpE (defs₀ (F := F)) 𝒱₀ (c : Thread nD τ) none) Set.univ (.op (.waitDma2 sm src dst hsrc hdst) kt) Q) := by
  subst hsm
  unfold waitSt Ow
  rw [bigSep_finFrom_succ hk, bigSep_finUpTo_succ hk]
  iintro ⟨#HR, #Hlev, ⟨%W, HO⟩, ⟨⟨Hcr, Hat⟩, Hrest⟩, Hdone⟩ Hk
  iapply (Rounds.wp_wait_rest_token 𝒱₀ ER (Rd m ρ) (c : Thread nD τ) none (κ := K (c, some (p, r, ⟨k, hk⟩)))
      (wpE_waitDma2_eq 𝒱₀ (c : Thread nD τ) none Set.univ) (Set.mem_univ _) () (O := O) (W := W) (R := 0) (m := 0) (T := ∅)
      (by rw [hN, Nat.zero_add]; exact (expect_xf m ρ c (p, r, ⟨k, hk⟩)).symm)) $$ [Hcr HO Hat]
  · isplitr; · iapply (inv_xf m ρ K (p, r, ⟨k, hk⟩) c); iexact HR
    isplitl [Hcr]; · rw [hN]; iexact Hcr
    isplitl [HO]; · iexact HO
    isplitr
    · iapply (mayWait c _ O (by rw [lv_xf]; exact hO)); iexact Hlev
    iexact Hat
  iintro ⟨HO, Hat, -, Hpay⟩
  ihave Hp := (Entails.of_eq (rest_xf m ρ c (p, r, ⟨k, hk⟩))) $$ Hpay
  iapply Hk
  isplitl [HO]; · iexists _; iexact HO
  isplitl [Hrest]; · iexact Hrest
  isplitl [Hat Hp]
  · isplitl [Hat] <;> iassumption
  iexact Hdone

/-! ## A load of a landed slot -/

/-- What a load of slot `k` reads is what the transfer sent. -/
theorem slot_readAt (c : Dev nD) (k : Fin 15) (f : Buf (Elt F) ((slot k).view.loc (c : Thread nD τ)))
    (h : (slot k).view.read (Elt F) f = piece m ρ (src k c) c) : rsM.view.readAt (Elt F) (slotR k).toLoadRect f = slab m ρ c k := by
  unfold slab
  rw [← h]
  exact (shapeCast_shapeCast (s := S1x32x512) (t := S32x512) (rsM.view.readAt (Elt F) (slotR k).toLoadRect f) (by decide) (by decide)).symm

theorem step_slab (c : Dev nD) (k : ℕ) (hk : k < 15) {hl : rsM.view.LoadsAt (slotR ⟨k, hk⟩).toLoadRect}
    {α : Type} {Q : α → sProp 𝕄} {kt : Vec F S1x32x512 .bf16 → Prog (TpuEff nD τ sig (Elt F) Λ₀ .tc) α} :
    waitSt m ρ false true c (k + 1)
      ⊢ iprop((waitSt m ρ false true c (k + 1) -∗ wp frame (wpE (defs₀ (F := F)) 𝒱₀ (c : Thread nD τ) none) Set.univ (kt (slab m ρ c ⟨k, hk⟩)) Q)
        -∗ wp frame (wpE (defs₀ (F := F)) 𝒱₀ (c : Thread nD τ) none) Set.univ (.op (.load rsM (slotR ⟨k, hk⟩).toLoadRect hl) kt) Q) := by
  unfold waitSt
  rw [bigSep_finUpTo_succ hk]
  unfold pay slotPts
  iintro ⟨Hrest, ⟨Hat, ⟨%f, %hf, Hpt⟩⟩, Hdone⟩ Hk
  iapply (wp_load 𝒱₀ (c : Thread nD τ) none Set.univ (m := rsM) (r := (slotR ⟨k, hk⟩).toLoadRect) (by rw [slot_set]; exact (setOn_whole _ _).subset)) $$ Hpt
  iintro Hpt
  rw [slot_readAt m ρ c ⟨k, hk⟩ f hf]
  iapply Hk
  isplitl [Hrest]; · iexact Hrest
  isplitl [Hat Hpt]
  · isplitl [Hat]; · iexact Hat
    iexists f
    isplitr; · ipureintro; exact hf
    iexact Hpt
  iexact Hdone

end Cert.Moe

end

end
-- ==== Proof.Regions.lean ====
/-
# 01_k — the three buffers, whole and in pieces

The partial result and the gather buffer are the sixteen devices' rows, the receive buffer its fifteen slots. The pieces cover
each buffer and meet nowhere, so holding the buffer is holding its pieces.
-/
module

public import proofs.«01_k».proof.Proof.Steps

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix2)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over devices and over steps -/

def revE : Fin 15 ≃ Fin 15 := ⟨rev, rev, rev_rev, rev_rev⟩

omit [FloatOps F] in
theorem bigSep_rev (Φ : Fin 15 → sProp 𝕄) : bigSep Finset.univ Φ = bigSep Finset.univ fun k => Φ (rev k) := bigSep_univ_equiv revE Φ

omit [FloatOps F] in
/-- A family over all devices: a device's own member, and its peers'. -/
theorem bigSep_peers (c : Dev nD) (Φ : Dev nD → sProp 𝕄) :
    bigSep Finset.univ Φ = iprop(Φ c ∗ bigSep Finset.univ fun k => Φ (peer k c)) := by
  have hu : (Finset.univ : Finset (Dev nD)) = insert c (Finset.univ.map ⟨fun k => peer k c, fun k k' h => peer_step_inj c k k' h⟩) := by
    ext d
    simp only [Finset.mem_univ, Finset.mem_insert, Finset.mem_map, Function.Embedding.coeFn_mk, true_and, true_iff]
    exact (eq_or_ne d c).imp id (exists_peer c d)
  rw [hu, bigSep_insert, bigSep_map]
  · rfl
  · intro h
    obtain ⟨k, -, hk⟩ := Finset.mem_map.mp h
    exact peer_ne c k hk

/-! ## Disjoint and covering -/

theorem chunk_disjoint (d d' : Dev nD) (h : d ≠ d') : Disjoint (chunkR d).set (chunkR d').set :=
  Ring.lead_disjoint (s := S512x512) (NB := 16) (0 : Fin 2) 32 (fun d : Fin 16 => ![32 * d.val, 0]) S32x512.size chunk_inb (fun _ => rfl) rfl d d' h
theorem chunk_cover : Finset.univ.biUnion (fun d : Dev nD => (chunkR d).set) = Finset.univ :=
  Ring.lead_cover (s := S512x512) (NB := 16) (0 : Fin 2) 32 (fun d : Fin 16 => ![32 * d.val, 0]) S32x512.size chunk_inb (fun _ => rfl)
    (by decide) rfl (by decide) rfl
theorem slot_disjoint (k k' : Fin 15) (h : k ≠ k') : Disjoint (slotR k).set (slotR k').set :=
  Ring.lead_disjoint (s := S15x32x512) (NB := 15) (0 : Fin 3) 1 (fun k : Fin 15 => ![k.val, 0, 0]) S1x32x512.size slot_inb (fun k => (Nat.one_mul _).symm) rfl k k' h
theorem slot_cover : Finset.univ.biUnion (fun k : Fin 15 => (slotR k).set) = Finset.univ :=
  Ring.lead_cover (s := S15x32x512) (NB := 15) (0 : Fin 3) 1 (fun k : Fin 15 => ![k.val, 0, 0]) S1x32x512.size slot_inb (fun k => (Nat.one_mul _).symm)
    (by decide) rfl (by decide) rfl

/-! ## The partial result -/

theorem psPts_eq (c d : Dev nD) : psPts m ρ c d = (((c : Thread nD τ).loc cc0_scratch0) ↦[(chunkR d).set]{fullShare} (psv m ρ c) : sProp 𝕄) := by
  unfold psPts; rw [psC_set]
theorem ps_split (c : Dev nD) :
    (((c : Thread nD τ).loc cc0_scratch0) ↦{fullShare} (psv m ρ c) : sProp 𝕄)
      = iprop(psPts m ρ c c ∗ bigSep Finset.univ fun k => psPts m ρ c (peer k c)) := by
  rw [← bigSep_peers c fun d => psPts m ρ c d]
  refine (Ring.pointsTo_blocks (Val := Elt F) (ℓ := (c : Thread nD τ).loc cc0_scratch0) (fun d : Dev nD => (chunkR d).set) chunk_disjoint chunk_cover (psv m ρ c)).trans ?_
  exact bigSep_congr fun d _ => (psPts_eq m ρ c d).symm

/-! ## The receive buffer -/

theorem slotOpen_intro (c : Dev nD) (k : Fin 15) (f : Buf (Elt F) ((c : Thread nD τ).loc cc0_scratch1)) :
    (((c : Thread nD τ).loc cc0_scratch1) ↦[(slotR k).set]{fullShare} f : sProp 𝕄) ⊢ slotOpen c k := by
  unfold slotOpen
  iintro H
  iexists f
  rw [slot_set]; iexact H
theorem slotPts_elim (c : Dev nD) (k : Fin 15) :
    slotPts m ρ c k ⊢ (iprop(∃ f : Buf (Elt F) ((c : Thread nD τ).loc cc0_scratch1), ((c : Thread nD τ).loc cc0_scratch1) ↦[(slotR k).set]{fullShare} f) : sProp 𝕄) := by
  unfold slotPts
  iintro ⟨%f, -, H⟩
  iexists f
  rw [slot_set]; iexact H
theorem rs_split (c : Dev nD) (f : Buf (Elt F) ((c : Thread nD τ).loc cc0_scratch1)) :
    (((c : Thread nD τ).loc cc0_scratch1) ↦{fullShare} f : sProp 𝕄) ⊢ bigSep Finset.univ fun k => slotOpen c k := by
  refine (Entails.of_eq (Ring.pointsTo_blocks (Val := Elt F) (ℓ := (c : Thread nD τ).loc cc0_scratch1) (fun k : Fin 15 => (slotR k).set) slot_disjoint slot_cover f)).trans ?_
  refine bigSep_mono fun k _ => slotOpen_intro c k f
theorem rs_join (c : Dev nD) (f₀ : Buf (Elt F) ((c : Thread nD τ).loc cc0_scratch1)) :
    bigSep Finset.univ (fun k => slotPts m ρ c k) ⊢ (iprop(∃ f : Buf (Elt F) ((c : Thread nD τ).loc cc0_scratch1), ((c : Thread nD τ).loc cc0_scratch1) ↦{fullShare} f) : sProp 𝕄) := by
  refine BIBase.Entails.trans (bigSep_mono (Ψ := fun k => iprop(∃ f : Buf (Elt F) ((c : Thread nD τ).loc cc0_scratch1), ((c : Thread nD τ).loc cc0_scratch1) ↦[(slotR k).set]{fullShare} f)) fun k _ => slotPts_elim m ρ c k)
    (Ring.pointsTo_blocks_join_exists (Val := Elt F) (ℓ := (c : Thread nD τ).loc cc0_scratch1) (fun k : Fin 15 => (slotR k).set) slot_disjoint slot_cover f₀)

/-! ## The gather buffer -/

theorem agOpen_intro (c d : Dev nD) (f : Buf (Elt F) ((c : Thread nD τ).loc cc0_scratch2)) :
    (((c : Thread nD τ).loc cc0_scratch2) ↦[(chunkR d).set]{fullShare} f : sProp 𝕄) ⊢ agOpen c d := by
  unfold agOpen
  iintro H
  iexists f
  rw [agC_set]; iexact H
theorem ag_split (c : Dev nD) (f : Buf (Elt F) ((c : Thread nD τ).loc cc0_scratch2)) :
    (((c : Thread nD τ).loc cc0_scratch2) ↦{fullShare} f : sProp 𝕄) ⊢ iprop(agOpen c c ∗ bigSep Finset.univ fun k => agOpen c (peer k c)) := by
  rw [← bigSep_peers c fun d => agOpen c d]
  refine (Entails.of_eq (Ring.pointsTo_blocks (Val := Elt F) (ℓ := (c : Thread nD τ).loc cc0_scratch2) (fun d : Dev nD => (chunkR d).set) chunk_disjoint chunk_cover f)).trans ?_
  refine bigSep_mono fun d _ => agOpen_intro c d f
theorem agPts_eq (c d : Dev nD) (q : PosShare TreeShare) : agPts m ρ c d q = (((c : Thread nD τ).loc cc0_scratch2) ↦[(chunkR d).set]{q} (agFull m ρ) : sProp 𝕄) := by
  unfold agPts; rw [agC_set]
theorem ag_join (c : Dev nD) :
    iprop(agPts m ρ c c fullShare ∗ bigSep Finset.univ fun k => agPts m ρ c (src k c) fullShare)
      = (((c : Thread nD τ).loc cc0_scratch2) ↦{fullShare} (agFull m ρ) : sProp 𝕄) := by
  have h : (bigSep Finset.univ fun k => agPts m ρ c (src k c) fullShare) = bigSep Finset.univ fun k => agPts m ρ c (peer k c) fullShare :=
    (bigSep_rev fun k => agPts m ρ c (peer k c) fullShare).symm
  rw [h, ← bigSep_peers c fun d => agPts m ρ c d fullShare]
  refine Eq.trans ?_ (Ring.pointsTo_blocks (Val := Elt F) (ℓ := (c : Thread nD τ).loc cc0_scratch2) (fun d : Dev nD => (chunkR d).set) chunk_disjoint chunk_cover (agFull m ρ)).symm
  exact bigSep_congr fun d _ => agPts_eq m ρ c d fullShare
/-- The summed rows are sent fifteen times at once, each time at a share of its own. -/
theorem ag_shares (c : Dev nD) : agPts m ρ c c fullShare = bigSep Finset.univ fun k => agPts m ρ c c (agShare k) :=
  Transfers.pointsTo_deal Finset.univ ⟨0, Finset.mem_univ _⟩ fullShare

/-! ## A device's own rows -/

/-- Row `j` of the rows `c`, as an index of the buffer. -/
theorem chunk_emb (c : Dev nD) (j : S32x512.Idx) :
    ((chunkR c).emb j 0).val = 32 * c.val + (j 0).val ∧ ((chunkR c).emb j 1).val = (j 1).val := by
  constructor
  · show 32 * c.val + 1 * (j 0).val = _; omega
  · show 0 + 1 * (j 1).val = _; omega

theorem agFull_chunk (c : Dev nD) (j : S32x512.Idx) : agFull m ρ ((chunkR c).emb j) = redv m ρ c j := by
  obtain ⟨h0, h1⟩ := chunk_emb c j
  have hj : (j 0).val < 32 := (j 0).isLt
  have e0 : (⟨((chunkR c).emb j 0).val / 32, by have := ((chunkR c).emb j 0).isLt; have h : ((chunkR c).emb j 0).val < 512 := this; show _ < 16; omega⟩ : Dev nD) = c :=
    Fin.ext (by show ((chunkR c).emb j 0).val / 32 = c.val; rw [h0]; omega)
  have e1 : (ix2 ⟨((chunkR c).emb j 0).val % 32, Nat.mod_lt _ (by decide)⟩ ⟨((chunkR c).emb j 1).val, ((chunkR c).emb j 1).isLt⟩ : S32x512.Idx) = j := by
    funext a
    match a with
    | ⟨0, _⟩ => exact Fin.ext (by show ((chunkR c).emb j 0).val % 32 = (j 0).val; rw [h0]; omega)
    | ⟨1, _⟩ => exact Fin.ext h1
  unfold agFull
  exact (congrArg (fun d => redv m ρ d _) e0).trans (congrArg (redv m ρ c) e1)

theorem own_stored (c : Dev nD) (f : Buf (Elt F) ((c : Thread nD τ).loc cc0_scratch2)) :
    (((c : Thread nD τ).loc cc0_scratch2) ↦[(chunkR c).set]{fullShare}
        ((agM.access (chunkR c) : View sig .tc _ _ _).write (Elt F) f (redv m ρ c) Finset.univ) : sProp 𝕄)
      ⊢ agPts m ρ c c fullShare := by
  rw [agPts_eq]
  refine Entails.of_eq (pointsTo_congr fun i hi => ?_)
  rw [← agC_set] at hi
  obtain ⟨j, -, rfl⟩ := Finset.mem_map.mp hi
  refine Eq.trans ?_ (agFull_chunk m ρ c j).symm
  exact View.write_emb_of_mem (v := (agM.access (chunkR c) : View sig .tc _ _ _)) (Val := Elt F) f (redv m ρ c) (Finset.mem_univ j)

/-- The load of the device's own rows of the partial result. -/
theorem step_own_load (c : Dev nD) {off : Fin 2 → ℕ} (hoff : off = ![32 * c.val, 0])
    {inb : ∀ a, off a + S32x512.size a ≤ S512x512.size a} {hl : psM.view.LoadsAt (Rect.unit (s := S512x512) off S32x512.size inb).toLoadRect}
    {α : Type} {Q : α → sProp 𝕄} {kt : Vec F S32x512 .bf16 → Prog (TpuEff nD τ sig (Elt F) Λ₀ .tc) α} :
    psPts m ρ c c
      ⊢ iprop((psPts m ρ c c -∗ wp frame (wpE (defs₀ (F := F)) 𝒱₀ (c : Thread nD τ) none) Set.univ (kt (piece m ρ c c)) Q)
        -∗ wp frame (wpE (defs₀ (F := F)) 𝒱₀ (c : Thread nD τ) none) Set.univ (.op (.load psM (Rect.unit (s := S512x512) off S32x512.size inb).toLoadRect hl) kt) Q) := by
  subst hoff
  unfold psPts
  iintro H Hk
  iapply (wp_load 𝒱₀ (c : Thread nD τ) none Set.univ (m := psM) (r := (chunkR c).toLoadRect) (f := psv m ρ c) (by rw [psC_set]; exact (setOn_whole _ _).subset)) $$ H
  iintro H
  iapply Hk; iexact H

/-- The load of the same rows of the gather buffer, before they are written: its value is not used. -/
theorem step_own_peek (c : Dev nD) {off : Fin 2 → ℕ} (hoff : off = ![32 * c.val, 0])
    {inb : ∀ a, off a + S32x512.size a ≤ S512x512.size a} {hl : agM.view.LoadsAt (Rect.unit (s := S512x512) off S32x512.size inb).toLoadRect}
    {α : Type} {Q : α → sProp 𝕄} {kt : Vec F S32x512 .bf16 → Prog (TpuEff nD τ sig (Elt F) Λ₀ .tc) α} (kt' : Prog (TpuEff nD τ sig (Elt F) Λ₀ .tc) α)
    (hkt : ∀ v, kt v = kt') :
    agOpen c c
      ⊢ iprop((agOpen c c -∗ wp frame (wpE (defs₀ (F := F)) 𝒱₀ (c : Thread nD τ) none) Set.univ kt' Q)
        -∗ wp frame (wpE (defs₀ (F := F)) 𝒱₀ (c : Thread nD τ) none) Set.univ (.op (.load agM (Rect.unit (s := S512x512) off S32x512.size inb).toLoadRect hl) kt) Q) := by
  subst hoff
  unfold agOpen
  iintro ⟨%f, H⟩ Hk
  iapply (wp_load 𝒱₀ (c : Thread nD τ) none Set.univ (m := agM) (r := (chunkR c).toLoadRect) (f := f) (by rw [agC_set]; exact (setOn_whole _ _).subset)) $$ H
  iintro H
  rw [hkt]
  iapply Hk
  iexists f; iexact H

/-- The store of the summed rows. -/
theorem step_own_store (c : Dev nD) {off : Fin 2 → ℕ} (hoff : off = ![32 * c.val, 0])
    {inb : ∀ a, off a + S32x512.size a ≤ S512x512.size a}
    {hx : (agM.access (Rect.unit (s := S512x512) off S32x512.size inb)).Stores Finset.univ}
    {hm : (Finset.univ : Finset (Rect.unit (s := S512x512) off S32x512.size inb).shape.Idx) = Finset.univ ∨ ∀ a, (Rect.unit (s := S512x512) off S32x512.size inb).stride a = 1}
    {α : Type} {Q : α → sProp 𝕄} {kt : PUnit → Prog (TpuEff nD τ sig (Elt F) Λ₀ .tc) α} :
    agOpen c c
      ⊢ iprop((agPts m ρ c c fullShare -∗ wp frame (wpE (defs₀ (F := F)) 𝒱₀ (c : Thread nD τ) none) Set.univ (kt ⟨⟩) Q)
        -∗ wp frame (wpE (defs₀ (F := F)) 𝒱₀ (c : Thread nD τ) none) Set.univ
            (.op (.store agM (Rect.unit (s := S512x512) off S32x512.size inb) (redv m ρ c) Finset.univ hx hm) kt) Q) := by
  subst hoff
  unfold agOpen
  iintro ⟨%f, H⟩ Hk
  iapply (wp_store 𝒱₀ (c : Thread nD τ) none Set.univ (m := agM) (r := chunkR c) (Mk := Finset.univ) (f := f)
    (S := (agC c).view.set) (Finset.Subset.refl _)) $$ H
  iintro H
  iapply Hk
  iapply (own_stored m ρ c f)
  rw [agC_set]; iexact H

end Cert.Moe

end

end
-- ==== Proof.Body.lean ====
/-
# 01_k — what the body starts from and leaves

How a device's share of the launch enters and leaves the states of the repeated steps, the statement on the body (what it is
given, what it leaves), and the repeated steps in the form in which the program writes them.
-/
module

public import proofs.«01_k».proof.Proof.Regions

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix2)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families of ghost state -/

omit [FloatOps F] in
theorem bigSep_xf (Φ : Xf → sProp 𝕄) : bigSep Finset.univ Φ
    = iprop((bigSep Finset.univ (fun k => Φ (false, false, k)) ∗ bigSep Finset.univ (fun k => Φ (false, true, k)))
      ∗ (bigSep Finset.univ (fun k => Φ (true, false, k)) ∗ bigSep Finset.univ (fun k => Φ (true, true, k)))) := by
  have h2 : ∀ Ψ : Bool → sProp 𝕄, bigSep Finset.univ Ψ = iprop(Ψ false ∗ Ψ true) := fun Ψ =>
    bigSep_univ_eq_bigSepL [false, true] (by decide) (by decide) Ψ
  rw [bigSep_univ_prod, h2, bigSep_univ_prod, h2, bigSep_univ_prod, h2]

/-- The positions of the semaphores of stage `p`, end `r`. -/
def atF (p r : Bool) (c : Dev nD) : sProp 𝕄 := bigSep Finset.univ fun k => atPos ER (xfCell (p, r, k) c) 0 ∅ 0
def crF (p r : Bool) (c : Dev nD) : sProp 𝕄 := bigSep Finset.univ fun k => cred (tallyAt (xfCell (p, r, k) c) () N)
/-- The duties with which `c` pays: its signals', its own senders', its receivers'. -/
def tokB (c : Dev nD) : sProp 𝕄 := bigSep Finset.univ fun k => dutyTok ER (barCell (peer k c)) 0 (rev k)
def tokS (p : Bool) (c : Dev nD) : sProp 𝕄 := bigSep Finset.univ fun k => dutyTok ER (xfCell (p, false, k) c) 0 0
def tokR (p : Bool) (c : Dev nD) : sProp 𝕄 := bigSep Finset.univ fun k => dutyTok ER (xfCell (p, true, k) (peer k c)) 0 0

/-! ## In and out of the states -/

theorem enter_sig (c : Dev nD) :
    iprop(tokB c ∗ (bigSep Finset.univ fun k => slotOpen (F := F) c k) ∗ bigSep Finset.univ fun k => agOpen c (peer k c)) ⊢ sigSt c 0 := by
  unfold tokB sigSt
  rw [bigSep_finFrom_zero, bigSep_rev fun k => slotOpen (F := F) c k, ← bigSep_sep', ← bigSep_sep']

theorem enter_send (p : Bool) (dst : Fin 15 → sProp 𝕄) (c : Dev nD) :
    iprop(tokS p c ∗ tokR p c ∗ (bigSep Finset.univ fun k => pay m ρ c 0 (some (p, false, k))) ∗ bigSep Finset.univ dst) ⊢ sendSt m ρ p dst c 0 := by
  unfold tokS tokR sendSt
  rw [bigSep_finFrom_zero, bigSep_finUpTo_zero, ← bigSep_sep', ← bigSep_sep', ← bigSep_sep']
  iintro H
  isplitl [H]; · iexact H
  iempintro
theorem leave_send (p : Bool) (dst : Fin 15 → sProp 𝕄) (c : Dev nD) : sendSt m ρ p dst c 15 ⊢ crF p false c := by
  unfold sendSt crF
  rw [bigSep_finUpTo_self]
  iintro ⟨-, H⟩
  iexact H

theorem enter_wait (p r : Bool) (c : Dev nD) : iprop(crF p r c ∗ atF p r c) ⊢ waitSt m ρ p r c 0 := by
  unfold crF atF waitSt
  rw [bigSep_finFrom_zero, bigSep_finUpTo_zero, ← bigSep_sep']
  iintro H
  isplitl [H]; · iexact H
  iempintro
theorem close_xf (K : Dev nD × CI → ℕ) (x : Xf) (c : Dev nD) :
    iprop(records m ρ K ∗ atPos ER (xfCell x c) (0 + 1) ∅ 0) ⊢ |={Set.univ}=> semVal (xfCell x c) 0 := by
  iintro ⟨#HR, H⟩
  ihave #Hi := (inv_xf m ρ K x c) $$ HR
  iapply (Rounds.cell_close ER (Rd m ρ) (Set.mem_univ (K (c, some x))) (fun h => h) (R := 0 + 1) (duties_later m ρ (xfCell x c)))
  isplitr; · iexact Hi
  iexact H
theorem close_bar (K : Dev nD × CI → ℕ) (c : Dev nD) :
    iprop(records m ρ K ∗ atPos ER (barCell c) (0 + 1) ∅ 0) ⊢ |={Set.univ}=> semVal (barCell c) 0 := by
  iintro ⟨#HR, H⟩
  ihave #Hi := (inv_bar m ρ K c) $$ HR
  iapply (Rounds.cell_close ER (Rd m ρ) (Set.mem_univ (K (c, none))) (fun h => h) (R := 0 + 1) (duties_later m ρ (barCell c)))
  isplitr; · iexact Hi
  iexact H

/-- The counters of one stage and end, all at zero. -/
def zeroF (p r : Bool) (c : Dev nD) : sProp 𝕄 := bigSep Finset.univ fun k => semVal (xfCell (p, r, k) c) 0

/-- After the last wait the semaphores are closed, and what the transfers handed over is there. -/
theorem leave_wait (K : Dev nD × CI → ℕ) (p r : Bool) (c : Dev nD) :
    iprop(records m ρ K ∗ waitSt m ρ p r c 15)
      ⊢ |={Set.univ}=> iprop(zeroF p r c ∗ bigSep Finset.univ fun k => pay m ρ c 0 (some (p, r, k))) := by
  unfold waitSt zeroF
  rw [bigSep_finFrom_self, bigSep_finUpTo_self, bigSep_sep']
  iintro ⟨#HR, -, Hat, Hp⟩
  imod (show iprop(records m ρ K ∗ bigSep Finset.univ fun k => atPos ER (xfCell (p, r, k) c) (0 + 1) ∅ 0)
      ⊢ |={Set.univ}=> bigSep Finset.univ fun k => semVal (xfCell (p, r, k) c) 0 from
        BIBase.Entails.trans (bigSep_with_persistent fun k _ => close_xf m ρ K (p, r, k) c) (bigSep_fupd _ _)) $$ [Hat] with Hz
  · isplitr; · iexact HR
    iexact Hat
  imodintro
  isplitl [Hz] <;> iassumption

/-! The same with the payments written out. -/

theorem enter_scatter (c : Dev nD) :
    iprop(tokS false c ∗ tokR false c ∗ (bigSep Finset.univ fun k => psPts m ρ c (peer k c)) ∗ bigSep Finset.univ fun k => slotOpen (peer k c) k)
      ⊢ sendSt m ρ false (fun k => slotOpen (peer k c) k) c 0 := enter_send m ρ false _ c
theorem enter_gather (c : Dev nD) :
    iprop(tokS true c ∗ tokR true c ∗ (bigSep Finset.univ fun k => agPts m ρ c c (agShare k)) ∗ bigSep Finset.univ fun k => agOpen (peer k c) c)
      ⊢ sendSt m ρ true (fun k => agOpen (peer k c) c) c 0 := enter_send m ρ true _ c
theorem leave_ss (K : Dev nD × CI → ℕ) (c : Dev nD) : iprop(records m ρ K ∗ waitSt m ρ false false c 15)
    ⊢ |={Set.univ}=> iprop(zeroF false false c ∗ bigSep Finset.univ fun k => psPts m ρ c (peer k c)) := leave_wait m ρ K false false c
theorem leave_sr (K : Dev nD × CI → ℕ) (c : Dev nD) : iprop(records m ρ K ∗ waitSt m ρ false true c 15)
    ⊢ |={Set.univ}=> iprop(zeroF false true c ∗ bigSep Finset.univ fun k => slotPts m ρ c k) := leave_wait m ρ K false true c
theorem leave_gs (K : Dev nD × CI → ℕ) (c : Dev nD) : iprop(records m ρ K ∗ waitSt m ρ true false c 15)
    ⊢ |={Set.univ}=> iprop(zeroF true false c ∗ bigSep Finset.univ fun k => agPts m ρ c c (agShare k)) := leave_wait m ρ K true false c
theorem leave_gr (K : Dev nD × CI → ℕ) (c : Dev nD) : iprop(records m ρ K ∗ waitSt m ρ true true c 15)
    ⊢ |={Set.univ}=> iprop(zeroF true true c ∗ bigSep Finset.univ fun k => agPts m ρ c (src k c) fullShare) := leave_wait m ρ K true true c

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The protocol's ghost state on device `c`: the cells' records, the positions at its own cells, the duties it pays with. -/
def ghost (K : Dev nD × CI → ℕ) (c : Dev nD) : sProp 𝕄 :=
  iprop(records m ρ K ∗ atPos ER (barCell c) 0 ∅ 0
    ∗ ((atF false false c ∗ atF false true c) ∗ (atF true false c ∗ atF true true c))
    ∗ tokB c ∗ (tokS false c ∗ tokR false c) ∗ (tokS true c ∗ tokR true c))
/-- With the names the launch chose, the credit of its barrier and of its receivers' semaphores, and the levels. -/
def start (c : Dev nD) : sProp 𝕄 :=
  iprop((∃ K, ghost m ρ K c) ∗ cred (tallyAt (barCell c) () 15) ∗ crF false true c ∗ crF true true c ∗ levAts L lv)

def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m ρ c ∗ scr c)
def Φ₁ (c : Dev nD) : sProp 𝕄 :=
  iprop(scr (F := F) c ∗ semVal (barCell c) 0 ∗ ((zeroF false false c ∗ zeroF false true c) ∗ (zeroF true false c ∗ zeroF true true c)))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m ρ c
    | ⟨1, _⟩ => rin m ρ c
    | ⟨2, _⟩ => iin m ρ c
    | ⟨3, _⟩ => win m ρ c
    | ⟨4, _⟩ => sin m ρ c
    | ⟨5, _⟩ => outv m ρ c
  Φ t := match t with
    | ⟨0, _⟩ => Φ₀ m ρ c
    | ⟨_ + 1, _⟩ => Φ₁ c
  q _ := fullShare
  owed t := match t with
    | ⟨0, _⟩ => oB c 0
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ (F := F) c ∗ (dats m ρ 0 c).owesAt () t₀.succ
    ∗ stg c cc0_stg0_0 (xin m ρ c) ∗ stg c cc0_stg1_0 (rin m ρ c) ∗ stg c cc0_stg2_0 (iin m ρ c)
    ∗ stg c cc0_stg3_0 (win m ρ c) ∗ stg c cc0_stg4_0 (sin m ρ c) ∗ stg c cc0_stg5_0 (outv m ρ c))

theorem fetch_in (w : Fin 5) : (cfg0.win w.castSucc).fetch t₀ = true := by fin_cases w <;> rfl

theorem hz : (![0, 0] : Fin 2 → Nat) = fun _ => 0 := funext fun a => by fin_cases a <;> rfl

omit [FloatOps F] in
theorem cur2 {A B R : sProp 𝕄} (h : iprop(A ∗ B) ⊢ R) : A ⊢ iprop(B -∗ R) := BIClass.wand_intro h
omit [FloatOps F] in
theorem cur3 {A B C R : sProp 𝕄} (h : iprop(A ∗ B ∗ C) ⊢ R) : A ⊢ iprop(B -∗ C -∗ R) := by
  iintro HA HB HC
  iapply h
  isplitl [HA]; · iexact HA
  isplitl [HB] <;> iassumption
omit [FloatOps F] in
theorem cur4 {A B C D R : sProp 𝕄} (h : iprop(A ∗ B ∗ C ∗ D) ⊢ R) : A ⊢ iprop(B -∗ C -∗ D -∗ R) := by
  iintro HA HB HC HD
  iapply h
  isplitl [HA]; · iexact HA
  isplitl [HB]; · iexact HB
  isplitl [HC] <;> iassumption

/-- The wait of the barrier. -/
theorem step_barrier (K : Dev nD × CI → ℕ) (c : Dev nD)
    {α : Type} {Q : α → sProp 𝕄} {kt : PUnit → Prog (TpuEff nD τ sig (Elt F) Λ₀ .tc) α} :
    iprop(records m ρ K ∗ levAts L lv ∗ Ow c (oS c 0) ∗ (cred (tallyAt (barCell c) () 15) ∗ atPos ER (barCell c) 0 ∅ 0))
      ⊢ iprop(((Ow c (oS c 0) ∗ atPos ER (barCell c) (0 + 1) ∅ 0 ∗ (bigSep Finset.univ fun k => slotOpen (peer k c) k)
            ∗ bigSep Finset.univ fun k => agOpen (peer k c) c) -∗ wp frame (wpE (defs₀ (F := F)) 𝒱₀ (c : Thread nD τ) none) Set.univ (kt ⟨⟩) Q)
        -∗ wp frame (wpE (defs₀ (F := F)) 𝒱₀ (c : Thread nD τ) none) Set.univ (.op (.semWait barS (15#32 : BitVec 32).toInt) kt) Q) := by
  unfold Ow
  iintro ⟨#HR, #HL, ⟨%W, HO⟩, HcB, HatB⟩ Hk
  ihave #Hi := (inv_bar m ρ K c) $$ HR
  iapply (Rounds.wp_wait_rest_token 𝒱₀ ER (Rd m ρ) (c : Thread nD τ) none (κ := K (c, none))
      (wpE_semWait_eq 𝒱₀ (c : Thread nD τ) none Set.univ) (Set.mem_univ _) () (O := oS c 0) (W := W) (R := 0) (m := 0) (T := ∅)
      (by rw [expect_bar]; decide)) $$ [HcB HO HatB]
  · isplitr; · iexact Hi
    isplitl [HcB]; · iexact HcB
    isplitl [HO]; · iexact HO
    isplitr; · iapply (mayWait c (.reg barS) (oS c 0) (above_oS c 0)); iexact HL
    iexact HatB
  iintro ⟨HO, HatB, -, Hpay⟩
  ihave Hp := (Entails.of_eq ((rest_bar m ρ c).trans (by rw [bigSep_sep']))) $$ Hpay
  icases Hp with ⟨H1, H2⟩
  iapply Hk
  isplitl [HO]; · iexists _; iexact HO
  isplitl [HatB]; · iexact HatB
  isplitl [H1] <;> iassumption

/-! ## The repeated steps as the program writes them -/

theorem scatter_src (c : Dev nD) (k : Fin 15) {off : Fin 2 → ℕ} (hoff : off = ![32 * ((c.val + k.val + 1) % 16), 0])
    {inb : ∀ a, off a + S32x512.size a ≤ S512x512.size a} :
    psM.slice (Rect.unit (s := S512x512) off S32x512.size inb) (fun _ => rfl) = psC (peer k c) := by subst hoff; rfl
theorem gather_src (c : Dev nD) {off : Fin 2 → ℕ} (hoff : off = ![32 * c.val, 0]) {inb : ∀ a, off a + S32x512.size a ≤ S512x512.size a} :
    agM.slice (Rect.unit (s := S512x512) off S32x512.size inb) (fun _ => rfl) = agC c := by subst hoff; rfl

/-- A load that reads `v`. -/
theorem step_load (c : Dev nD) {s : Shape} {e : EltTy} {M : Memref sig .tc .vmem s e} {r : LoadRect s} (f : Buf (Elt F) (M.view.loc (c : Thread nD τ)))
    {v : Vec F r.shape e} (hv : M.view.readAt (Elt F) r f = v) {hl : M.view.LoadsAt r}
    {α : Type} {Q : α → sProp 𝕄} {kt : Vec F r.shape e → Prog (TpuEff nD τ sig (Elt F) Λ₀ .tc) α} :
    (M.view.loc (c : Thread nD τ) ↦{fullShare} f : sProp 𝕄)
      ⊢ iprop(((M.view.loc (c : Thread nD τ) ↦{fullShare} f) -∗ wp frame (wpE (defs₀ (F := F)) 𝒱₀ (c : Thread nD τ) none) Set.univ (kt v) Q)
        -∗ wp frame (wpE (defs₀ (F := F)) 𝒱₀ (c : Thread nD τ) none) Set.univ (.op (.load M r hl) kt) Q) := by
  subst hv
  iintro H Hk
  iapply (wp_load 𝒱₀ (c : Thread nD τ) none Set.univ (m := M) (r := r) (f := f) (Finset.subset_univ _)) $$ H
  iintro H
  iapply Hk; iexact H

/-- A store that leaves `g`. -/
theorem step_store (c : Dev nD) {s : Shape} {e : EltTy} {M : Memref sig .tc .vmem s e} {r : Rect s} (f : Buf (Elt F) (M.view.loc (c : Thread nD τ)))
    {w : r.shape.Idx → Elt F e} {g : Buf (Elt F) (M.view.loc (c : Thread nD τ))} (hg : (M.access r).write (Elt F) f w Finset.univ = g)
    {hx : (M.access r).Stores Finset.univ} {hm : (Finset.univ : Finset r.shape.Idx) = Finset.univ ∨ ∀ a, r.stride a = 1}
    {α : Type} {Q : α → sProp 𝕄} {kt : PUnit → Prog (TpuEff nD τ sig (Elt F) Λ₀ .tc) α} :
    (M.view.loc (c : Thread nD τ) ↦{fullShare} f : sProp 𝕄)
      ⊢ iprop(((M.view.loc (c : Thread nD τ) ↦{fullShare} g) -∗ wp frame (wpE (defs₀ (F := F)) 𝒱₀ (c : Thread nD τ) none) Set.univ (kt ⟨⟩) Q)
        -∗ wp frame (wpE (defs₀ (F := F)) 𝒱₀ (c : Thread nD τ) none) Set.univ (.op (.store M r w Finset.univ hx hm) kt) Q) := by
  subst hg
  iintro H Hk
  iapply (wp_store 𝒱₀ (c : Thread nD τ) none Set.univ (m := M) (r := r) (Mk := Finset.univ) (f := f) (Finset.subset_univ _)) $$ H
  iintro H
  iapply Hk; iexact H

end Cert.Moe

end

end
-- ==== Proof.Run.lean ====
/-
# 01_k — the body on one device

The body of the kernel run once, at a symbolic device, from what the launch gives it to what it leaves: each effect by its rule
in program order, the states of the five repeated kinds of step threaded through.
-/
module

public import proofs.«01_k».proof.Proof.Body

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix2)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 4000000 in
theorem sound_body (c : Dev nD) :
    bodyPre m ρ c ⊢ wp frame (wpE (defs₀ (F := F)) 𝒱₀ c none) Set.univ
      (cc0_body (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_stg5_0) (Memref.isWhole_whole _)
        (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6) (fun _ => bodyPost m ρ c) := by
  unfold bodyPre Φ₀ start ghost scr
  iintro ⟨⟨⟨⟨%K, #HR, HatB, ⟨⟨HatSS, HatSR⟩, HatGS, HatGR⟩, HtB, ⟨HtSS, HtSR⟩, HtGS, HtGR⟩, HcB, HcS, HcG, #HL⟩,
      ⟨%fp, Hps⟩, ⟨%fr, Hrs⟩, ⟨%fa, Hag⟩⟩, Ho,
    ⟨%d0, %g0, %hg0, Hx⟩, ⟨%d1, %g1, %hg1, Hr⟩, ⟨%d2, %g2, %hg2, Hi⟩, ⟨%d3, %g3, %hg3, Hw⟩, ⟨%d4, %g4, %hg4, Hs⟩, ⟨%d5, %g5, %hg5, Hout⟩⟩
  have e0 : g0 = xin m ρ c := by rw [hg0]; unfold Dat.before; rw [if_pos (show (cfg0.win 0).fetch t₀ = true from fetch_in 0)]; rfl
  have e1 : g1 = rin m ρ c := by rw [hg1]; unfold Dat.before; rw [if_pos (show (cfg0.win 1).fetch t₀ = true from fetch_in 1)]; rfl
  have e2 : g2 = iin m ρ c := by rw [hg2]; unfold Dat.before; rw [if_pos (show (cfg0.win 2).fetch t₀ = true from fetch_in 2)]; rfl
  have e3 : g3 = win m ρ c := by rw [hg3]; unfold Dat.before; rw [if_pos (show (cfg0.win 3).fetch t₀ = true from fetch_in 3)]; rfl
  have e4 : g4 = sin m ρ c := by rw [hg4]; unfold Dat.before; rw [if_pos (show (cfg0.win 4).fetch t₀ = true from fetch_in 4)]; rfl
  subst e0 e1 e2 e3 e4
  clear hg0 hg1 hg2 hg3 hg4 hg5
  unfold Dat.owesAt Pipeline.owesWithin
  icases Ho with ⟨%W, %hW, HO⟩
  clear hW
  ihave HO : Ow c (oB c 0) $$ [HO]
  · unfold Ow; iexists W; iexact HO
  ihave Hrs := (rs_split (F := F) c fr) $$ Hrs
  ihave Hag := (ag_split (F := F) c fa) $$ Hag
  icases Hag with ⟨HagO, Hag⟩
  ihave Hsig : sigSt c 0 $$ [HtB Hrs Hag]
  · iapply (enter_sig (F := F) c)
    isplitl [HtB]; · iexact HtB
    isplitl [Hrs] <;> iassumption
  simp only [cc0_body_eq_skeleton]; unfold cc0_body_skel
  simp only [k0_part33_eq_skeleton]; unfold k0_part33_skel
  simp only [k0_part1_eq_skeleton]; unfold k0_part1_skel
  simp only [semSignalWord, semWaitWord, Prog.lift, Prog.bind_op, Prog.bind_ret, Prog.pure_eq_ret, wp_deviceId]
  iapply (cur3 (step_signal m ρ K c ⟨k0_dev1 c, k0_dev1_lt c⟩ 0 (by decide) (Fin.ext (k0_dev1_eq c)))) $$ HR HO Hsig; iintro ⟨HO, Hsig⟩
  iapply (cur3 (step_signal m ρ K c ⟨k0_dev2 c, k0_dev2_lt c⟩ 1 (by decide) (Fin.ext (k0_dev2_eq c)))) $$ HR HO Hsig; iintro ⟨HO, Hsig⟩
  iapply (cur3 (step_signal m ρ K c ⟨k0_dev3 c, k0_dev3_lt c⟩ 2 (by decide) (Fin.ext (k0_dev3_eq c)))) $$ HR HO Hsig; iintro ⟨HO, Hsig⟩
  iapply (cur3 (step_signal m ρ K c ⟨k0_dev4 c, k0_dev4_lt c⟩ 3 (by decide) (Fin.ext (k0_dev4_eq c)))) $$ HR HO Hsig; iintro ⟨HO, Hsig⟩
  iapply (cur3 (step_signal m ρ K c ⟨k0_dev5 c, k0_dev5_lt c⟩ 4 (by decide) (Fin.ext (k0_dev5_eq c)))) $$ HR HO Hsig; iintro ⟨HO, Hsig⟩
  simp only [k0_part2_eq_skeleton]; unfold k0_part2_skel
  simp only [semSignalWord, semWaitWord, Prog.lift, Prog.bind_op, Prog.bind_ret, Prog.pure_eq_ret, wp_deviceId]
  iapply (cur3 (step_signal m ρ K c ⟨k0_dev6 c, k0_dev6_lt c⟩ 5 (by decide) (Fin.ext (k0_dev6_eq c)))) $$ HR HO Hsig; iintro ⟨HO, Hsig⟩
  iapply (cur3 (step_signal m ρ K c ⟨k0_dev7 c, k0_dev7_lt c⟩ 6 (by decide) (Fin.ext (k0_dev7_eq c)))) $$ HR HO Hsig; iintro ⟨HO, Hsig⟩
  iapply (cur3 (step_signal m ρ K c ⟨k0_dev8 c, k0_dev8_lt c⟩ 7 (by decide) (Fin.ext (k0_dev8_eq c)))) $$ HR HO Hsig; iintro ⟨HO, Hsig⟩
  iapply (cur3 (step_signal m ρ K c ⟨k0_dev9 c, k0_dev9_lt c⟩ 8 (by decide) (Fin.ext (k0_dev9_eq c)))) $$ HR HO Hsig; iintro ⟨HO, Hsig⟩
  iapply (cur3 (step_signal m ρ K c ⟨k0_dev10 c, k0_dev10_lt c⟩ 9 (by decide) (Fin.ext (k0_dev10_eq c)))) $$ HR HO Hsig; iintro ⟨HO, Hsig⟩
  iapply (cur3 (step_signal m ρ K c ⟨k0_dev11 c, k0_dev11_lt c⟩ 10 (by decide) (Fin.ext (k0_dev11_eq c)))) $$ HR HO Hsig; iintro ⟨HO, Hsig⟩
  simp only [k0_part3_eq_skeleton]; unfold k0_part3_skel
  simp only [semSignalWord, semWaitWord, Prog.lift, Prog.bind_op, Prog.bind_ret, Prog.pure_eq_ret, wp_deviceId]
  iapply (cur3 (step_signal m ρ K c ⟨k0_dev12 c, k0_dev12_lt c⟩ 11 (by decide) (Fin.ext (k0_dev12_eq c)))) $$ HR HO Hsig; iintro ⟨HO, Hsig⟩
  iapply (cur3 (step_signal m ρ K c ⟨k0_dev13 c, k0_dev13_lt c⟩ 12 (by decide) (Fin.ext (k0_dev13_eq c)))) $$ HR HO Hsig; iintro ⟨HO, Hsig⟩
  iapply (cur3 (step_signal m ρ K c ⟨k0_dev14 c, k0_dev14_lt c⟩ 13 (by decide) (Fin.ext (k0_dev14_eq c)))) $$ HR HO Hsig; iintro ⟨HO, Hsig⟩
  iapply (cur3 (step_signal m ρ K c ⟨k0_dev15 c, k0_dev15_lt c⟩ 14 (by decide) (Fin.ext (k0_dev15_eq c)))) $$ HR HO Hsig; iintro ⟨HO, Hsig⟩
  iapply (step_load c (M := Memref.whole cc0_stg0_0) (xin m ρ c) (Memref.readAt_unit_zero (Elt F) cc0_stg0_0 hz _ _)) $$ Hx; iintro Hx
  iapply (step_load c (M := Memref.whole cc0_stg1_0) (rin m ρ c) (Memref.readAt_unit_zero (Elt F) cc0_stg1_0 hz _ _)) $$ Hr; iintro Hr
  simp only [k0_part4_eq_skeleton]; unfold k0_part4_skel
  simp only [semSignalWord, semWaitWord, Prog.lift, Prog.bind_op, Prog.bind_ret, Prog.pure_eq_ret, wp_deviceId]
  iapply (step_load c (M := Memref.whole cc0_stg3_0) (win m ρ c) (v := w0 m ρ c) rfl) $$ Hw; iintro Hw
  iapply (step_load c (M := Memref.whole cc0_stg3_0) (win m ρ c) (v := w1 m ρ c) rfl) $$ Hw; iintro Hw
  iapply (step_load c (M := Memref.whole cc0_stg2_0) (iin m ρ c) (Memref.readAt_unit_zero (Elt F) cc0_stg2_0 hz _ _)) $$ Hi; iintro Hi
  iapply (step_load c (M := Memref.whole cc0_stg2_0) (iin m ρ c) (Memref.readAt_unit_zero (Elt F) cc0_stg2_0 hz _ _)) $$ Hi; iintro Hi
  simp only [k0_part5_eq_skeleton]; unfold k0_part5_skel
  simp only [semSignalWord, semWaitWord, Prog.lift, Prog.bind_op, Prog.bind_ret, Prog.pure_eq_ret, wp_deviceId]
  iapply (step_load c (M := Memref.whole cc0_scratch0) _ (Memref.readAt_unit_zero (Elt F) cc0_scratch0 hz _ _)) $$ Hps; iintro Hps
  iapply (step_store c (M := Memref.whole cc0_scratch0) _ (g := psv m ρ c) (Memref.write_access_unit_zero_univ (Elt F) cc0_scratch0 hz _ _ _)) $$ Hps; iintro Hps
  -- the barrier: every device has given its slot and its rows of the gather buffer
  ihave HO := (Entails.of_eq (congrArg (Ow (F := F) c) (oB_end c))) $$ HO
  iapply (cur4 (step_barrier m ρ K c)) $$ HR HL HO [HcB HatB]
  · isplitl [HcB] <;> iassumption
  iintro ⟨HO, HatB, HrsN, HagN⟩
  ihave Hps := (Entails.of_eq (ps_split m ρ c)) $$ Hps
  icases Hps with ⟨Hps, HpsN⟩
  ihave Hsc := (cur4 (enter_scatter m ρ c)) $$ HtSS HtSR HpsN HrsN
  iapply (cur3 (step_scatter m ρ K c ⟨k0_dev16 c, k0_dev16_lt c⟩ 0 (by decide) (Fin.ext (k0_dev16_eq c)) (scatter_src c 0 (k0_off1_eq c 0)) (sem_arg9 0) (sem_arg10 0))) $$ HR HO Hsc; iintro ⟨HO, Hsc⟩
  simp only [k0_part6_eq_skeleton]; unfold k0_part6_skel
  simp only [semSignalWord, semWaitWord, Prog.lift, Prog.bind_op, Prog.bind_ret, Prog.pure_eq_ret, wp_deviceId]
  iapply (cur3 (step_scatter m ρ K c ⟨k0_dev17 c, k0_dev17_lt c⟩ 1 (by decide) (Fin.ext (k0_dev17_eq c)) (scatter_src c 1 (k0_off1_eq c 1)) (sem_arg9 1) (sem_arg10 1))) $$ HR HO Hsc; iintro ⟨HO, Hsc⟩
  iapply (cur3 (step_scatter m ρ K c ⟨k0_dev18 c, k0_dev18_lt c⟩ 2 (by decide) (Fin.ext (k0_dev18_eq c)) (scatter_src c 2 (k0_off1_eq c 2)) (sem_arg9 2) (sem_arg10 2))) $$ HR HO Hsc; iintro ⟨HO, Hsc⟩
  iapply (cur3 (step_scatter m ρ K c ⟨k0_dev19 c, k0_dev19_lt c⟩ 3 (by decide) (Fin.ext (k0_dev19_eq c)) (scatter_src c 3 (k0_off1_eq c 3)) (sem_arg9 3) (sem_arg10 3))) $$ HR HO Hsc; iintro ⟨HO, Hsc⟩
  simp only [k0_part7_eq_skeleton]; unfold k0_part7_skel
  simp only [semSignalWord, semWaitWord, Prog.lift, Prog.bind_op, Prog.bind_ret, Prog.pure_eq_ret, wp_deviceId]
  iapply (cur3 (step_scatter m ρ K c ⟨k0_dev20 c, k0_dev20_lt c⟩ 4 (by decide) (Fin.ext (k0_dev20_eq c)) (scatter_src c 4 (k0_off1_eq c 4)) (sem_arg9 4) (sem_arg10 4))) $$ HR HO Hsc; iintro ⟨HO, Hsc⟩
  iapply (cur3 (step_scatter m ρ K c ⟨k0_dev21 c, k0_dev21_lt c⟩ 5 (by decide) (Fin.ext (k0_dev21_eq c)) (scatter_src c 5 (k0_off1_eq c 5)) (sem_arg9 5) (sem_arg10 5))) $$ HR HO Hsc; iintro ⟨HO, Hsc⟩
  simp only [k0_part8_eq_skeleton]; unfold k0_part8_skel
  simp only [semSignalWord, semWaitWord, Prog.lift, Prog.bind_op, Prog.bind_ret, Prog.pure_eq_ret, wp_deviceId]
  iapply (cur3 (step_scatter m ρ K c ⟨k0_dev22 c, k0_dev22_lt c⟩ 6 (by decide) (Fin.ext (k0_dev22_eq c)) (scatter_src c 6 (k0_off1_eq c 6)) (sem_arg9 6) (sem_arg10 6))) $$ HR HO Hsc; iintro ⟨HO, Hsc⟩
  iapply (cur3 (step_scatter m ρ K c ⟨k0_dev23 c, k0_dev23_lt c⟩ 7 (by decide) (Fin.ext (k0_dev23_eq c)) (scatter_src c 7 (k0_off1_eq c 7)) (sem_arg9 7) (sem_arg10 7))) $$ HR HO Hsc; iintro ⟨HO, Hsc⟩
  iapply (cur3 (step_scatter m ρ K c ⟨k0_dev24 c, k0_dev24_lt c⟩ 8 (by decide) (Fin.ext (k0_dev24_eq c)) (scatter_src c 8 (k0_off1_eq c 8)) (sem_arg9 8) (sem_arg10 8))) $$ HR HO Hsc; iintro ⟨HO, Hsc⟩
  simp only [k0_part9_eq_skeleton]; unfold k0_part9_skel
  simp only [semSignalWord, semWaitWord, Prog.lift, Prog.bind_op, Prog.bind_ret, Prog.pure_eq_ret, wp_deviceId]
  iapply (cur3 (step_scatter m ρ K c ⟨k0_dev25 c, k0_dev25_lt c⟩ 9 (by decide) (Fin.ext (k0_dev25_eq c)) (scatter_src c 9 (k0_off1_eq c 9)) (sem_arg9 9) (sem_arg10 9))) $$ HR HO Hsc; iintro ⟨HO, Hsc⟩
  iapply (cur3 (step_scatter m ρ K c ⟨k0_dev26 c, k0_dev26_lt c⟩ 10 (by decide) (Fin.ext (k0_dev26_eq c)) (scatter_src c 10 (k0_off1_eq c 10)) (sem_arg9 10) (sem_arg10 10))) $$ HR HO Hsc; iintro ⟨HO, Hsc⟩
  simp only [k0_part10_eq_skeleton]; unfold k0_part10_skel
  simp only [semSignalWord, semWaitWord, Prog.lift, Prog.bind_op, Prog.bind_ret, Prog.pure_eq_ret, wp_deviceId]
  iapply (cur3 (step_scatter m ρ K c ⟨k0_dev27 c, k0_dev27_lt c⟩ 11 (by decide) (Fin.ext (k0_dev27_eq c)) (scatter_src c 11 (k0_off1_eq c 11)) (sem_arg9 11) (sem_arg10 11))) $$ HR HO Hsc; iintro ⟨HO, Hsc⟩
  iapply (cur3 (step_scatter m ρ K c ⟨k0_dev28 c, k0_dev28_lt c⟩ 12 (by decide) (Fin.ext (k0_dev28_eq c)) (scatter_src c 12 (k0_off1_eq c 12)) (sem_arg9 12) (sem_arg10 12))) $$ HR HO Hsc; iintro ⟨HO, Hsc⟩
  iapply (cur3 (step_scatter m ρ K c ⟨k0_dev29 c, k0_dev29_lt c⟩ 13 (by decide) (Fin.ext (k0_dev29_eq c)) (scatter_src c 13 (k0_off1_eq c 13)) (sem_arg9 13) (sem_arg10 13))) $$ HR HO Hsc; iintro ⟨HO, Hsc⟩
  simp only [k0_part11_eq_skeleton]; unfold k0_part11_skel
  simp only [semSignalWord, semWaitWord, Prog.lift, Prog.bind_op, Prog.bind_ret, Prog.pure_eq_ret, wp_deviceId]
  iapply (cur3 (step_scatter m ρ K c ⟨k0_dev30 c, k0_dev30_lt c⟩ 14 (by decide) (Fin.ext (k0_dev30_eq c)) (scatter_src c 14 (k0_off1_eq c 14)) (sem_arg9 14) (sem_arg10 14))) $$ HR HO Hsc; iintro ⟨HO, Hsc⟩
  iapply (step_load c (M := Memref.whole cc0_stg4_0) (sin m ρ c) (Memref.readAt_unit_zero (Elt F) cc0_stg4_0 hz _ _)) $$ Hs; iintro Hs
  iapply (step_load c (M := Memref.whole cc0_stg5_0) _ (Memref.readAt_unit_zero (Elt F) cc0_stg5_0 hz _ _)) $$ Hout; iintro Hout
  iapply (step_store c (M := Memref.whole cc0_stg5_0) _ (Memref.write_access_unit_zero_univ (Elt F) cc0_stg5_0 hz _ _ _)) $$ Hout; iintro Hout
  -- all of its own transfers started: the receive waits
  ihave HO := (Entails.of_eq (congrArg (Ow (F := F) c) (oS_end c))) $$ HO
  ihave HcSS := (leave_send m ρ false _ c) $$ Hsc
  ihave Hrc := (cur2 (enter_wait m ρ false true c)) $$ HcS HatSR
  iapply (step_own_load m ρ c (k0_off2_eq c)) $$ Hps; iintro Hps
  iapply (cur4 (step_wait m ρ K false true c 0 (by decide) (oG c 0) (above_oG c 0) (sem_arg10 0) (dst := slot (0 : Fin 15)) rfl)) $$ HR HL HO Hrc; iintro ⟨HO, Hrc⟩
  iapply (step_slab m ρ c 0 (by decide)) $$ Hrc; iintro Hrc
  simp only [k0_part12_eq_skeleton]; unfold k0_part12_skel
  simp only [semSignalWord, semWaitWord, Prog.lift, Prog.bind_op, Prog.bind_ret, Prog.pure_eq_ret, wp_deviceId]
  iapply (cur4 (step_wait m ρ K false true c 1 (by decide) (oG c 0) (above_oG c 0) (sem_arg10 1) (dst := slot (1 : Fin 15)) rfl)) $$ HR HL HO Hrc; iintro ⟨HO, Hrc⟩
  iapply (step_slab m ρ c 1 (by decide)) $$ Hrc; iintro Hrc
  iapply (cur4 (step_wait m ρ K false true c 2 (by decide) (oG c 0) (above_oG c 0) (sem_arg10 2) (dst := slot (2 : Fin 15)) rfl)) $$ HR HL HO Hrc; iintro ⟨HO, Hrc⟩
  iapply (step_slab m ρ c 2 (by decide)) $$ Hrc; iintro Hrc
  iapply (cur4 (step_wait m ρ K false true c 3 (by decide) (oG c 0) (above_oG c 0) (sem_arg10 3) (dst := slot (3 : Fin 15)) rfl)) $$ HR HL HO Hrc; iintro ⟨HO, Hrc⟩
  simp only [k0_part13_eq_skeleton]; unfold k0_part13_skel
  simp only [semSignalWord, semWaitWord, Prog.lift, Prog.bind_op, Prog.bind_ret, Prog.pure_eq_ret, wp_deviceId]
  iapply (step_slab m ρ c 3 (by decide)) $$ Hrc; iintro Hrc
  iapply (cur4 (step_wait m ρ K false true c 4 (by decide) (oG c 0) (above_oG c 0) (sem_arg10 4) (dst := slot (4 : Fin 15)) rfl)) $$ HR HL HO Hrc; iintro ⟨HO, Hrc⟩
  iapply (step_slab m ρ c 4 (by decide)) $$ Hrc; iintro Hrc
  iapply (cur4 (step_wait m ρ K false true c 5 (by decide) (oG c 0) (above_oG c 0) (sem_arg10 5) (dst := slot (5 : Fin 15)) rfl)) $$ HR HL HO Hrc; iintro ⟨HO, Hrc⟩
  iapply (step_slab m ρ c 5 (by decide)) $$ Hrc; iintro Hrc
  simp only [k0_part14_eq_skeleton]; unfold k0_part14_skel
  simp only [semSignalWord, semWaitWord, Prog.lift, Prog.bind_op, Prog.bind_ret, Prog.pure_eq_ret, wp_deviceId]
  iapply (cur4 (step_wait m ρ K false true c 6 (by decide) (oG c 0) (above_oG c 0) (sem_arg10 6) (dst := slot (6 : Fin 15)) rfl)) $$ HR HL HO Hrc; iintro ⟨HO, Hrc⟩
  iapply (step_slab m ρ c 6 (by decide)) $$ Hrc; iintro Hrc
  iapply (cur4 (step_wait m ρ K false true c 7 (by decide) (oG c 0) (above_oG c 0) (sem_arg10 7) (dst := slot (7 : Fin 15)) rfl)) $$ HR HL HO Hrc; iintro ⟨HO, Hrc⟩
  iapply (step_slab m ρ c 7 (by decide)) $$ Hrc; iintro Hrc
  iapply (cur4 (step_wait m ρ K false true c 8 (by decide) (oG c 0) (above_oG c 0) (sem_arg10 8) (dst := slot (8 : Fin 15)) rfl)) $$ HR HL HO Hrc; iintro ⟨HO, Hrc⟩
  simp only [k0_part15_eq_skeleton]; unfold k0_part15_skel
  simp only [semSignalWord, semWaitWord, Prog.lift, Prog.bind_op, Prog.bind_ret, Prog.pure_eq_ret, wp_deviceId]
  iapply (step_slab m ρ c 8 (by decide)) $$ Hrc; iintro Hrc
  iapply (cur4 (step_wait m ρ K false true c 9 (by decide) (oG c 0) (above_oG c 0) (sem_arg10 9) (dst := slot (9 : Fin 15)) rfl)) $$ HR HL HO Hrc; iintro ⟨HO, Hrc⟩
  iapply (step_slab m ρ c 9 (by decide)) $$ Hrc; iintro Hrc
  iapply (cur4 (step_wait m ρ K false true c 10 (by decide) (oG c 0) (above_oG c 0) (sem_arg10 10) (dst := slot (10 : Fin 15)) rfl)) $$ HR HL HO Hrc; iintro ⟨HO, Hrc⟩
  iapply (step_slab m ρ c 10 (by decide)) $$ Hrc; iintro Hrc
  simp only [k0_part16_eq_skeleton]; unfold k0_part16_skel
  simp only [semSignalWord, semWaitWord, Prog.lift, Prog.bind_op, Prog.bind_ret, Prog.pure_eq_ret, wp_deviceId]
  iapply (cur4 (step_wait m ρ K false true c 11 (by decide) (oG c 0) (above_oG c 0) (sem_arg10 11) (dst := slot (11 : Fin 15)) rfl)) $$ HR HL HO Hrc; iintro ⟨HO, Hrc⟩
  iapply (step_slab m ρ c 11 (by decide)) $$ Hrc; iintro Hrc
  iapply (cur4 (step_wait m ρ K false true c 12 (by decide) (oG c 0) (above_oG c 0) (sem_arg10 12) (dst := slot (12 : Fin 15)) rfl)) $$ HR HL HO Hrc; iintro ⟨HO, Hrc⟩
  iapply (step_slab m ρ c 12 (by decide)) $$ Hrc; iintro Hrc
  iapply (cur4 (step_wait m ρ K false true c 13 (by decide) (oG c 0) (above_oG c 0) (sem_arg10 13) (dst := slot (13 : Fin 15)) rfl)) $$ HR HL HO Hrc; iintro ⟨HO, Hrc⟩
  simp only [k0_part17_eq_skeleton]; unfold k0_part17_skel
  simp only [semSignalWord, semWaitWord, Prog.lift, Prog.bind_op, Prog.bind_ret, Prog.pure_eq_ret, wp_deviceId]
  iapply (step_slab m ρ c 13 (by decide)) $$ Hrc; iintro Hrc
  iapply (cur4 (step_wait m ρ K false true c 14 (by decide) (oG c 0) (above_oG c 0) (sem_arg10 14) (dst := slot (14 : Fin 15)) rfl)) $$ HR HL HO Hrc; iintro ⟨HO, Hrc⟩
  iapply (step_slab m ρ c 14 (by decide)) $$ Hrc; iintro Hrc
  iapply (step_own_peek c (k0_off2_eq c) _ (fun _ => rfl)) $$ HagO; iintro HagO
  iapply (step_own_store m ρ c (k0_off2_eq c)) $$ HagO; iintro HagO
  ihave HagO := (Entails.of_eq (ag_shares m ρ c)) $$ HagO
  ihave Hga := (cur4 (enter_gather m ρ c)) $$ HtGS HtGR HagO HagN
  simp only [k0_part18_eq_skeleton]; unfold k0_part18_skel
  simp only [semSignalWord, semWaitWord, Prog.lift, Prog.bind_op, Prog.bind_ret, Prog.pure_eq_ret, wp_deviceId]
  iapply (cur3 (step_gather m ρ K c ⟨k0_dev31 c, k0_dev31_lt c⟩ 0 (by decide) (Fin.ext (k0_dev31_eq c)) (gather_src c (k0_off3_eq c)) (sem_arg11 0) (sem_arg12 0))) $$ HR HO Hga; iintro ⟨HO, Hga⟩
  iapply (cur3 (step_gather m ρ K c ⟨k0_dev32 c, k0_dev32_lt c⟩ 1 (by decide) (Fin.ext (k0_dev32_eq c)) (gather_src c (k0_off3_eq c)) (sem_arg11 1) (sem_arg12 1))) $$ HR HO Hga; iintro ⟨HO, Hga⟩
  iapply (cur3 (step_gather m ρ K c ⟨k0_dev33 c, k0_dev33_lt c⟩ 2 (by decide) (Fin.ext (k0_dev33_eq c)) (gather_src c (k0_off3_eq c)) (sem_arg11 2) (sem_arg12 2))) $$ HR HO Hga; iintro ⟨HO, Hga⟩
  simp only [k0_part19_eq_skeleton]; unfold k0_part19_skel
  simp only [semSignalWord, semWaitWord, Prog.lift, Prog.bind_op, Prog.bind_ret, Prog.pure_eq_ret, wp_deviceId]
  iapply (cur3 (step_gather m ρ K c ⟨k0_dev34 c, k0_dev34_lt c⟩ 3 (by decide) (Fin.ext (k0_dev34_eq c)) (gather_src c (k0_off3_eq c)) (sem_arg11 3) (sem_arg12 3))) $$ HR HO Hga; iintro ⟨HO, Hga⟩
  iapply (cur3 (step_gather m ρ K c ⟨k0_dev35 c, k0_dev35_lt c⟩ 4 (by decide) (Fin.ext (k0_dev35_eq c)) (gather_src c (k0_off3_eq c)) (sem_arg11 4) (sem_arg12 4))) $$ HR HO Hga; iintro ⟨HO, Hga⟩
  iapply (cur3 (step_gather m ρ K c ⟨k0_dev36 c, k0_dev36_lt c⟩ 5 (by decide) (Fin.ext (k0_dev36_eq c)) (gather_src c (k0_off3_eq c)) (sem_arg11 5) (sem_arg12 5))) $$ HR HO Hga; iintro ⟨HO, Hga⟩
  simp only [k0_part20_eq_skeleton]; unfold k0_part20_skel
  simp only [semSignalWord, semWaitWord, Prog.lift, Prog.bind_op, Prog.bind_ret, Prog.pure_eq_ret, wp_deviceId]
  iapply (cur3 (step_gather m ρ K c ⟨k0_dev37 c, k0_dev37_lt c⟩ 6 (by decide) (Fin.ext (k0_dev37_eq c)) (gather_src c (k0_off3_eq c)) (sem_arg11 6) (sem_arg12 6))) $$ HR HO Hga; iintro ⟨HO, Hga⟩
  iapply (cur3 (step_gather m ρ K c ⟨k0_dev38 c, k0_dev38_lt c⟩ 7 (by decide) (Fin.ext (k0_dev38_eq c)) (gather_src c (k0_off3_eq c)) (sem_arg11 7) (sem_arg12 7))) $$ HR HO Hga; iintro ⟨HO, Hga⟩
  simp only [k0_part21_eq_skeleton]; unfold k0_part21_skel
  simp only [semSignalWord, semWaitWord, Prog.lift, Prog.bind_op, Prog.bind_ret, Prog.pure_eq_ret, wp_deviceId]
  iapply (cur3 (step_gather m ρ K c ⟨k0_dev39 c, k0_dev39_lt c⟩ 8 (by decide) (Fin.ext (k0_dev39_eq c)) (gather_src c (k0_off3_eq c)) (sem_arg11 8) (sem_arg12 8))) $$ HR HO Hga; iintro ⟨HO, Hga⟩
  iapply (cur3 (step_gather m ρ K c ⟨k0_dev40 c, k0_dev40_lt c⟩ 9 (by decide) (Fin.ext (k0_dev40_eq c)) (gather_src c (k0_off3_eq c)) (sem_arg11 9) (sem_arg12 9))) $$ HR HO Hga; iintro ⟨HO, Hga⟩
  iapply (cur3 (step_gather m ρ K c ⟨k0_dev41 c, k0_dev41_lt c⟩ 10 (by decide) (Fin.ext (k0_dev41_eq c)) (gather_src c (k0_off3_eq c)) (sem_arg11 10) (sem_arg12 10))) $$ HR HO Hga; iintro ⟨HO, Hga⟩
  simp only [k0_part22_eq_skeleton]; unfold k0_part22_skel
  simp only [semSignalWord, semWaitWord, Prog.lift, Prog.bind_op, Prog.bind_ret, Prog.pure_eq_ret, wp_deviceId]
  iapply (cur3 (step_gather m ρ K c ⟨k0_dev42 c, k0_dev42_lt c⟩ 11 (by decide) (Fin.ext (k0_dev42_eq c)) (gather_src c (k0_off3_eq c)) (sem_arg11 11) (sem_arg12 11))) $$ HR HO Hga; iintro ⟨HO, Hga⟩
  iapply (cur3 (step_gather m ρ K c ⟨k0_dev43 c, k0_dev43_lt c⟩ 12 (by decide) (Fin.ext (k0_dev43_eq c)) (gather_src c (k0_off3_eq c)) (sem_arg11 12) (sem_arg12 12))) $$ HR HO Hga; iintro ⟨HO, Hga⟩
  simp only [k0_part23_eq_skeleton]; unfold k0_part23_skel
  simp only [semSignalWord, semWaitWord, Prog.lift, Prog.bind_op, Prog.bind_ret, Prog.pure_eq_ret, wp_deviceId]
  iapply (cur3 (step_gather m ρ K c ⟨k0_dev44 c, k0_dev44_lt c⟩ 13 (by decide) (Fin.ext (k0_dev44_eq c)) (gather_src c (k0_off3_eq c)) (sem_arg11 13) (sem_arg12 13))) $$ HR HO Hga; iintro ⟨HO, Hga⟩
  iapply (cur3 (step_gather m ρ K c ⟨k0_dev45 c, k0_dev45_lt c⟩ 14 (by decide) (Fin.ext (k0_dev45_eq c)) (gather_src c (k0_off3_eq c)) (sem_arg11 14) (sem_arg12 14))) $$ HR HO Hga; iintro ⟨HO, Hga⟩
  -- the gather's transfers started: nothing is owed any more
  ihave HO := (Entails.of_eq (congrArg (Ow (F := F) c) (oG_end c))) $$ HO
  ihave HcGS := (leave_send m ρ true _ c) $$ Hga
  ihave Hgr := (cur2 (enter_wait m ρ true true c)) $$ HcG HatGR
  iapply (cur4 (step_wait m ρ K true true c 0 (by decide) 0 (above_zero _) (sem_arg12 0) (dst := agC 0) rfl)) $$ HR HL HO Hgr; iintro ⟨HO, Hgr⟩
  iapply (cur4 (step_wait m ρ K true true c 1 (by decide) 0 (above_zero _) (sem_arg12 1) (dst := agC 0) rfl)) $$ HR HL HO Hgr; iintro ⟨HO, Hgr⟩
  simp only [k0_part24_eq_skeleton]; unfold k0_part24_skel
  simp only [semSignalWord, semWaitWord, Prog.lift, Prog.bind_op, Prog.bind_ret, Prog.pure_eq_ret, wp_deviceId]
  iapply (cur4 (step_wait m ρ K true true c 2 (by decide) 0 (above_zero _) (sem_arg12 2) (dst := agC 0) rfl)) $$ HR HL HO Hgr; iintro ⟨HO, Hgr⟩
  iapply (cur4 (step_wait m ρ K true true c 3 (by decide) 0 (above_zero _) (sem_arg12 3) (dst := agC 0) rfl)) $$ HR HL HO Hgr; iintro ⟨HO, Hgr⟩
  iapply (cur4 (step_wait m ρ K true true c 4 (by decide) 0 (above_zero _) (sem_arg12 4) (dst := agC 0) rfl)) $$ HR HL HO Hgr; iintro ⟨HO, Hgr⟩
  iapply (cur4 (step_wait m ρ K true true c 5 (by decide) 0 (above_zero _) (sem_arg12 5) (dst := agC 0) rfl)) $$ HR HL HO Hgr; iintro ⟨HO, Hgr⟩
  simp only [k0_part25_eq_skeleton]; unfold k0_part25_skel
  simp only [semSignalWord, semWaitWord, Prog.lift, Prog.bind_op, Prog.bind_ret, Prog.pure_eq_ret, wp_deviceId]
  iapply (cur4 (step_wait m ρ K true true c 6 (by decide) 0 (above_zero _) (sem_arg12 6) (dst := agC 0) rfl)) $$ HR HL HO Hgr; iintro ⟨HO, Hgr⟩
  iapply (cur4 (step_wait m ρ K true true c 7 (by decide) 0 (above_zero _) (sem_arg12 7) (dst := agC 0) rfl)) $$ HR HL HO Hgr; iintro ⟨HO, Hgr⟩
  iapply (cur4 (step_wait m ρ K true true c 8 (by decide) 0 (above_zero _) (sem_arg12 8) (dst := agC 0) rfl)) $$ HR HL HO Hgr; iintro ⟨HO, Hgr⟩
  iapply (cur4 (step_wait m ρ K true true c 9 (by decide) 0 (above_zero _) (sem_arg12 9) (dst := agC 0) rfl)) $$ HR HL HO Hgr; iintro ⟨HO, Hgr⟩
  simp only [k0_part26_eq_skeleton]; unfold k0_part26_skel
  simp only [semSignalWord, semWaitWord, Prog.lift, Prog.bind_op, Prog.bind_ret, Prog.pure_eq_ret, wp_deviceId]
  iapply (cur4 (step_wait m ρ K true true c 10 (by decide) 0 (above_zero _) (sem_arg12 10) (dst := agC 0) rfl)) $$ HR HL HO Hgr; iintro ⟨HO, Hgr⟩
  iapply (cur4 (step_wait m ρ K true true c 11 (by decide) 0 (above_zero _) (sem_arg12 11) (dst := agC 0) rfl)) $$ HR HL HO Hgr; iintro ⟨HO, Hgr⟩
  iapply (cur4 (step_wait m ρ K true true c 12 (by decide) 0 (above_zero _) (sem_arg12 12) (dst := agC 0) rfl)) $$ HR HL HO Hgr; iintro ⟨HO, Hgr⟩
  iapply (cur4 (step_wait m ρ K true true c 13 (by decide) 0 (above_zero _) (sem_arg12 13) (dst := agC 0) rfl)) $$ HR HL HO Hgr; iintro ⟨HO, Hgr⟩
  simp only [k0_part27_eq_skeleton]; unfold k0_part27_skel
  simp only [semSignalWord, semWaitWord, Prog.lift, Prog.bind_op, Prog.bind_ret, Prog.pure_eq_ret, wp_deviceId]
  iapply (cur4 (step_wait m ρ K true true c 14 (by decide) 0 (above_zero _) (sem_arg12 14) (dst := agC 0) rfl)) $$ HR HL HO Hgr; iintro ⟨HO, Hgr⟩
  ihave Hgs := (cur2 (enter_wait m ρ true false c)) $$ HcGS HatGS
  ihave Hss := (cur2 (enter_wait m ρ false false c)) $$ HcSS HatSS
  iapply (cur4 (step_wait m ρ K true false c 0 (by decide) 0 (above_zero _) (sem_arg11 0) (dst := agC 0) rfl)) $$ HR HL HO Hgs; iintro ⟨HO, Hgs⟩
  iapply (cur4 (step_wait m ρ K false false c 0 (by decide) 0 (above_zero _) (sem_arg9 0) (dst := psC 0) rfl)) $$ HR HL HO Hss; iintro ⟨HO, Hss⟩
  iapply (cur4 (step_wait m ρ K true false c 1 (by decide) 0 (above_zero _) (sem_arg11 1) (dst := agC 0) rfl)) $$ HR HL HO Hgs; iintro ⟨HO, Hgs⟩
  simp only [k0_part28_eq_skeleton]; unfold k0_part28_skel
  simp only [semSignalWord, semWaitWord, Prog.lift, Prog.bind_op, Prog.bind_ret, Prog.pure_eq_ret, wp_deviceId]
  iapply (cur4 (step_wait m ρ K false false c 1 (by decide) 0 (above_zero _) (sem_arg9 1) (dst := psC 0) rfl)) $$ HR HL HO Hss; iintro ⟨HO, Hss⟩
  iapply (cur4 (step_wait m ρ K true false c 2 (by decide) 0 (above_zero _) (sem_arg11 2) (dst := agC 0) rfl)) $$ HR HL HO Hgs; iintro ⟨HO, Hgs⟩
  iapply (cur4 (step_wait m ρ K false false c 2 (by decide) 0 (above_zero _) (sem_arg9 2) (dst := psC 0) rfl)) $$ HR HL HO Hss; iintro ⟨HO, Hss⟩
  iapply (cur4 (step_wait m ρ K true false c 3 (by decide) 0 (above_zero _) (sem_arg11 3) (dst := agC 0) rfl)) $$ HR HL HO Hgs; iintro ⟨HO, Hgs⟩
  iapply (cur4 (step_wait m ρ K false false c 3 (by decide) 0 (above_zero _) (sem_arg9 3) (dst := psC 0) rfl)) $$ HR HL HO Hss; iintro ⟨HO, Hss⟩
  simp only [k0_part29_eq_skeleton]; unfold k0_part29_skel
  simp only [semSignalWord, semWaitWord, Prog.lift, Prog.bind_op, Prog.bind_ret, Prog.pure_eq_ret, wp_deviceId]
  iapply (cur4 (step_wait m ρ K true false c 4 (by decide) 0 (above_zero _) (sem_arg11 4) (dst := agC 0) rfl)) $$ HR HL HO Hgs; iintro ⟨HO, Hgs⟩
  iapply (cur4 (step_wait m ρ K false false c 4 (by decide) 0 (above_zero _) (sem_arg9 4) (dst := psC 0) rfl)) $$ HR HL HO Hss; iintro ⟨HO, Hss⟩
  iapply (cur4 (step_wait m ρ K true false c 5 (by decide) 0 (above_zero _) (sem_arg11 5) (dst := agC 0) rfl)) $$ HR HL HO Hgs; iintro ⟨HO, Hgs⟩
  iapply (cur4 (step_wait m ρ K false false c 5 (by decide) 0 (above_zero _) (sem_arg9 5) (dst := psC 0) rfl)) $$ HR HL HO Hss; iintro ⟨HO, Hss⟩
  iapply (cur4 (step_wait m ρ K true false c 6 (by decide) 0 (above_zero _) (sem_arg11 6) (dst := agC 0) rfl)) $$ HR HL HO Hgs; iintro ⟨HO, Hgs⟩
  simp only [k0_part30_eq_skeleton]; unfold k0_part30_skel
  simp only [semSignalWord, semWaitWord, Prog.lift, Prog.bind_op, Prog.bind_ret, Prog.pure_eq_ret, wp_deviceId]
  iapply (cur4 (step_wait m ρ K false false c 6 (by decide) 0 (above_zero _) (sem_arg9 6) (dst := psC 0) rfl)) $$ HR HL HO Hss; iintro ⟨HO, Hss⟩
  iapply (cur4 (step_wait m ρ K true false c 7 (by decide) 0 (above_zero _) (sem_arg11 7) (dst := agC 0) rfl)) $$ HR HL HO Hgs; iintro ⟨HO, Hgs⟩
  iapply (cur4 (step_wait m ρ K false false c 7 (by decide) 0 (above_zero _) (sem_arg9 7) (dst := psC 0) rfl)) $$ HR HL HO Hss; iintro ⟨HO, Hss⟩
  iapply (cur4 (step_wait m ρ K true false c 8 (by decide) 0 (above_zero _) (sem_arg11 8) (dst := agC 0) rfl)) $$ HR HL HO Hgs; iintro ⟨HO, Hgs⟩
  simp only [k0_part31_eq_skeleton]; unfold k0_part31_skel
  simp only [semSignalWord, semWaitWord, Prog.lift, Prog.bind_op, Prog.bind_ret, Prog.pure_eq_ret, wp_deviceId]
  iapply (cur4 (step_wait m ρ K false false c 8 (by decide) 0 (above_zero _) (sem_arg9 8) (dst := psC 0) rfl)) $$ HR HL HO Hss; iintro ⟨HO, Hss⟩
  iapply (cur4 (step_wait m ρ K true false c 9 (by decide) 0 (above_zero _) (sem_arg11 9) (dst := agC 0) rfl)) $$ HR HL HO Hgs; iintro ⟨HO, Hgs⟩
  iapply (cur4 (step_wait m ρ K false false c 9 (by decide) 0 (above_zero _) (sem_arg9 9) (dst := psC 0) rfl)) $$ HR HL HO Hss; iintro ⟨HO, Hss⟩
  iapply (cur4 (step_wait m ρ K true false c 10 (by decide) 0 (above_zero _) (sem_arg11 10) (dst := agC 0) rfl)) $$ HR HL HO Hgs; iintro ⟨HO, Hgs⟩
  iapply (cur4 (step_wait m ρ K false false c 10 (by decide) 0 (above_zero _) (sem_arg9 10) (dst := psC 0) rfl)) $$ HR HL HO Hss; iintro ⟨HO, Hss⟩
  simp only [k0_part32_eq_skeleton]; unfold k0_part32_skel
  simp only [semSignalWord, semWaitWord, Prog.lift, Prog.bind_op, Prog.bind_ret, Prog.pure_eq_ret, wp_deviceId]
  iapply (cur4 (step_wait m ρ K true false c 11 (by decide) 0 (above_zero _) (sem_arg11 11) (dst := agC 0) rfl)) $$ HR HL HO Hgs; iintro ⟨HO, Hgs⟩
  iapply (cur4 (step_wait m ρ K false false c 11 (by decide) 0 (above_zero _) (sem_arg9 11) (dst := psC 0) rfl)) $$ HR HL HO Hss; iintro ⟨HO, Hss⟩
  iapply (cur4 (step_wait m ρ K true false c 12 (by decide) 0 (above_zero _) (sem_arg11 12) (dst := agC 0) rfl)) $$ HR HL HO Hgs; iintro ⟨HO, Hgs⟩
  iapply (cur4 (step_wait m ρ K false false c 12 (by decide) 0 (above_zero _) (sem_arg9 12) (dst := psC 0) rfl)) $$ HR HL HO Hss; iintro ⟨HO, Hss⟩
  iapply (cur4 (step_wait m ρ K true false c 13 (by decide) 0 (above_zero _) (sem_arg11 13) (dst := agC 0) rfl)) $$ HR HL HO Hgs; iintro ⟨HO, Hgs⟩
  iapply (cur4 (step_wait m ρ K false false c 13 (by decide) 0 (above_zero _) (sem_arg9 13) (dst := psC 0) rfl)) $$ HR HL HO Hss; iintro ⟨HO, Hss⟩
  iapply (cur4 (step_wait m ρ K true false c 14 (by decide) 0 (above_zero _) (sem_arg11 14) (dst := agC 0) rfl)) $$ HR HL HO Hgs; iintro ⟨HO, Hgs⟩
  iapply (cur4 (step_wait m ρ K false false c 14 (by decide) 0 (above_zero _) (sem_arg9 14) (dst := psC 0) rfl)) $$ HR HL HO Hss; iintro ⟨HO, Hss⟩
  iapply (step_load c (M := Memref.whole cc0_stg5_0) _ (Memref.readAt_unit_zero (Elt F) cc0_stg5_0 hz _ _)) $$ Hout; iintro Hout
  -- every wait made: the semaphores close, the buffers are whole again
  imod (cur2 (leave_sr m ρ K c)) $$ HR Hrc with ⟨HzSR, Hrs⟩
  imod (cur2 (leave_gr m ρ K c)) $$ HR Hgr with ⟨HzGR, HagR⟩
  imod (cur2 (leave_gs m ρ K c)) $$ HR Hgs with ⟨HzGS, HagO⟩
  imod (cur2 (leave_ss m ρ K c)) $$ HR Hss with ⟨HzSS, HpsR⟩
  imod (cur2 (close_bar m ρ K c)) $$ HR HatB with HzB
  ihave HagO := (Entails.of_eq (ag_shares m ρ c).symm) $$ HagO
  ihave Hag := (cur2 (Entails.of_eq (ag_join m ρ c))) $$ HagO HagR
  ihave Hps := (cur2 (Entails.of_eq (ps_split m ρ c).symm)) $$ Hps HpsR
  ihave Hrs := (rs_join m ρ c fr) $$ Hrs
  iapply (step_load c (M := Memref.whole cc0_scratch2) (agFull m ρ) (Memref.readAt_unit_zero (Elt F) cc0_scratch2 hz _ _)) $$ Hag; iintro Hag
  iapply (step_load c (M := Memref.whole cc0_stg5_0) _ (Memref.readAt_unit_zero (Elt F) cc0_stg5_0 hz _ _)) $$ Hout; iintro Hout
  iapply (step_store c (M := Memref.whole cc0_stg5_0) _ (Memref.write_access_unit_zero_univ (Elt F) cc0_stg5_0 hz _ _ _)) $$ Hout; iintro Hout
  rw [wp_ret]; imodintro
  unfold bodyPost Φ₁ scr Dat.owesAt Pipeline.owesWithin Ow
  icases HO with ⟨%W', HO⟩
  rw [show (dats m ρ 0 c).owed t₀.succ = 0 from rfl]
  isplitl [Hps Hrs Hag HzB HzSS HzSR HzGS HzGR]
  · isplitl [Hps Hrs Hag]
    · isplitl [Hps]; · iexists _; iexact Hps
      isplitl [Hrs]; · iexact Hrs
      iexists _; iexact Hag
    isplitl [HzB]; · iexact HzB
    isplitl [HzSS HzSR] <;> [isplitl [HzSS]; isplitl [HzGS]] <;> iassumption
  isplitl [HO]
  · iexists W'
    isplitr; · ipureintro; exact fun _ _ => Or.inl trivial
    iexact HO
  isplitl [Hx]; · (iexists _; isplitr; · (ipureintro; rfl)); iexact Hx
  isplitl [Hr]; · (iexists _; isplitr; · (ipureintro; rfl)); iexact Hr
  isplitl [Hi]; · (iexists _; isplitr; · (ipureintro; rfl)); iexact Hi
  isplitl [Hw]; · (iexists _; isplitr; · (ipureintro; rfl)); iexact Hw
  isplitl [Hs]; · (iexists _; isplitr; · (ipureintro; rfl)); iexact Hs
  iexists _; isplitr; · (ipureintro; rfl)
  iexact Hout

end Cert.Moe

end

end
-- ==== Proof.Launched.lean ====
/-
# 01_k — the launch

The protocol's ghost state minted at the launch, dealt out to the devices which use it; what the devices owe one another at the
start, as credit for the devices which wait; and with these the run of the whole program: it terminates, every counter ends at
zero and every device's result array holds the computed contents.
-/
module

public import proofs.«01_k».proof.Proof.Run
public import Idealize.ShloMosaic.Lib.Pipeline.Launch
public import Idealize.ShloMosaic.Lib.Pipeline.Kit
public import Idealize.ShloMosaic.Lib.Pipeline.CollectiveSegs
@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix2)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

theorem bigSep_W (Φ : Fin cfg0.W → sProp 𝕄) : bigSep Finset.univ Φ = iprop(Φ 0 ∗ Φ 1 ∗ Φ 2 ∗ Φ 3 ∗ Φ 4 ∗ Φ 5) := bigSep_W0 Φ

set_option maxRecDepth 16000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6)
    (fun _ => bodyPost m ρ c)
  exact sound_body m ρ c

/-! ## What is minted -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × CI → GSem nD τ sig) := fun a b h =>
  Prod.ext (congrArg (fun g : GSem nD τ sig => g.1.1) h) (csem_inj (congrArg Prod.snd h))

def minted : Finset (GSem nD τ sig) := Finset.univ.map ⟨kcell, kcell_injective⟩

/-- The duties at a device's own cells: the barrier's fifteen, each transfer semaphore's one. -/
abbrev TI : Type := Du ⊕ Xf
abbrev tokOf (ct : Dev nD × TI) : GSem nD τ sig × ℕ × Du := match ct.2 with
  | .inl d => (barCell ct.1, 0, d)
  | .inr x => (xfCell x ct.1, 0, 0)

theorem tokOf_injective : Function.Injective (tokOf : Dev nD × TI → GSem nD τ sig × ℕ × Du) := by
  rintro ⟨c, s⟩ ⟨c', s'⟩ h
  have hcell : cell (match s with | .inl _ => none | .inr x => some x) c = cell (match s' with | .inl _ => none | .inr x => some x) c' := by
    have := congrArg Prod.fst h
    cases s <;> cases s' <;> exact this
  have hk := kcell_injective (a₁ := (c, _)) (a₂ := (c', _)) hcell
  have hc : c = c' := congrArg Prod.fst hk
  have hi := congrArg Prod.snd hk
  subst hc
  cases s with
  | inl d =>
    cases s' with
    | inl d' => exact congrArg (fun d => (c, (Sum.inl d : TI))) (congrArg (fun x : GSem nD τ sig × ℕ × Du => x.2.2) h)
    | inr x => cases hi
  | inr x =>
    cases s' with
    | inl d' => cases hi
    | inr x' => exact congrArg (fun d => (c, (Sum.inr d : TI))) (Option.some.inj hi)

def mintedToks : Finset (GSem nD τ sig × ℕ × Du) := Finset.univ.map ⟨tokOf, tokOf_injective⟩

/-- The ghost state of the launch: the pipeline's and the protocol's. -/
def u₀ : UU :=
  (initOf (Pipeline.cells cfgs cellOf_inj) (Pipeline.launchToks cfgs cellOf_inj), initOf minted mintedToks)

/-- The duties at device `c`'s barrier, and at its transfer semaphores of stage `p` and end `r`. -/
def ownB (c : Dev nD) : sProp 𝕄 := bigSep Finset.univ fun k : Du => dutyTok ER (barCell c) 0 k
def ownX (p r : Bool) (c : Dev nD) : sProp 𝕄 := bigSep Finset.univ fun k : Fin 15 => dutyTok ER (xfCell (p, r, k) c) 0 0
def toks (c : Dev nD) : sProp 𝕄 :=
  iprop(ownB c ∗ ((ownX false false c ∗ ownX false true c) ∗ (ownX true false c ∗ ownX true true c)))

def G (c : Dev nD) : sProp 𝕄 :=
  iprop((bigSep Finset.univ fun i : CI => roundState ER (Rd m ρ) (kcell (c, i)) 0)
    ∗ (bigSep Finset.univ fun i : CI => iprop(atPos ER (kcell (c, i)) 0 ∅ 0 ∗ reached ER (kcell (c, i)) 0)) ∗ toks c)
def G' (c : Dev nD) : sProp 𝕄 := iprop(∃ K, ghost m ρ K c)

omit [FloatOps F] in
theorem bigSep_ci (Φ : CI → sProp 𝕄) : bigSep Finset.univ Φ = iprop(Φ none ∗ bigSep Finset.univ fun x => Φ (some x)) := by
  rw [bigSep_univ_at Φ none, show (Finset.univ : Finset CI).erase none = Finset.univ.map Function.Embedding.some from by
    ext i; cases i <;> simp, bigSep_map]
  rfl

omit [FloatOps F] in
theorem toks_minted (c : Dev nD) :
    (bigSep Finset.univ fun t : TI => (dutyTok ER (tokOf (c, t)).1 (tokOf (c, t)).2.1 (tokOf (c, t)).2.2 : sProp 𝕄)) = toks c := by
  rw [bigSep_univ_sum, bigSep_xf]; rfl

theorem fund_minted : BI.own (ER (initOf minted mintedToks)) ⊢ (|==> bigSep Finset.univ (G m ρ) : sProp 𝕄) := by
  have hX (Φ : GSem nD τ sig → sProp 𝕄) : bigSep minted Φ = bigSep Finset.univ fun c : Dev nD => bigSep Finset.univ fun i : CI => Φ (kcell (c, i)) := by
    unfold minted; rw [bigSep_map, bigSep_univ_prod]; rfl
  have hT : bigSep mintedToks (fun x => (dutyTok ER x.1 x.2.1 x.2.2 : sProp 𝕄)) = bigSep Finset.univ fun c : Dev nD => toks c := by
    unfold mintedToks; rw [bigSep_map, bigSep_univ_prod]
    exact bigSep_congr fun c _ => toks_minted c
  iintro HX
  imod (Rounds.fund ER (Rd m ρ) minted mintedToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells opened -/

omit [FloatOps F] in
theorem ownSems_eq (c : Dev nD) : (Pipeline.ownSems0 (Ix := Unit) (Name := ℕ) (U := UU) (Lvl := ℕ) (Val := Elt F) (τ := τ) osem c : sProp 𝕄)
    = bigSep Finset.univ fun x : Xf => semVal (xfCell x c) 0 := rfl

omit [FloatOps F] in
theorem unscopedSems_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem counters (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [ownSems_eq, unscopedSems_eq, bigSep_ci]
  iintro ⟨HX, HB⟩
  isplitl [HB]; · iexact HB
  iexact HX

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CI => iprop(∃ κ : ℕ, cellInv ER (Rd m ρ) κ (kcell (c, i))))
          ∗ (bigSep Finset.univ fun i : CI => iprop(atPos ER (kcell (c, i)) 0 ∅ 0 ∗ reached ER (kcell (c, i)) 0)) ∗ toks c) := by
  unfold G
  iintro ⟨Hos, Hus, Hst, Hat, Htok⟩
  ihave Hv := (counters (F := F) c) $$ [Hos Hus]
  · isplitl [Hos] <;> iassumption
  imod (show iprop((bigSep Finset.univ fun i : CI => semVal (kcell (c, i)) 0) ∗ bigSep Finset.univ fun i : CI => roundState ER (Rd m ρ) (kcell (c, i)) 0)
      ⊢ (|={Set.univ}=> bigSep Finset.univ fun i : CI => iprop(∃ κ : ℕ, cellInv ER (Rd m ρ) κ (kcell (c, i))) : sProp 𝕄) from by
        rw [← bigSep_sep']
        exact (bigSep_mono fun i _ => (Rounds.body_intro ER (Rd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt -/

/-- Step `k` as a renaming of the devices. -/
def peerE (k : Fin 15) : Dev nD ≃ Dev nD := ⟨peer k, peer (rev k), peer_rev_peer k, peer_peer_rev k⟩

omit [FloatOps F] in
theorem deal (Φ : Fin 15 → Dev nD → sProp 𝕄) :
    (bigSep Finset.univ fun c => bigSep Finset.univ fun k => Φ k c) = bigSep Finset.univ fun c => bigSep Finset.univ fun k => Φ k (peer k c) := by
  rw [bigSep_univ_comm, bigSep_congr (s := Finset.univ) (fun k _ => bigSep_univ_equiv (peerE k) (Φ k)), bigSep_univ_comm]
  rfl

omit [FloatOps F] in
theorem deal_bar : (bigSep Finset.univ fun c : Dev nD => (ownB c : sProp 𝕄)) = bigSep Finset.univ fun c => tokB c := by
  unfold ownB tokB
  rw [bigSep_congr (s := Finset.univ) (fun c _ => bigSep_rev (fun k => (dutyTok ER (barCell c) 0 k : sProp 𝕄)))]
  exact deal fun k c => dutyTok ER (barCell c) 0 (rev k)

omit [FloatOps F] in
theorem deal_recv (p : Bool) : (bigSep Finset.univ fun c : Dev nD => (ownX p true c : sProp 𝕄)) = bigSep Finset.univ fun c => tokR p c :=
  deal fun k c => dutyTok ER (xfCell (p, true, k) c) 0 0

/-- What stays with a device: the duties it pays. -/
def payToks (c : Dev nD) : sProp 𝕄 := iprop(tokB c ∗ (tokS false c ∗ tokR false c) ∗ (tokS true c ∗ tokR true c))

omit [FloatOps F] in
theorem toks_dealt : (bigSep Finset.univ fun c : Dev nD => (toks c : sProp 𝕄)) ⊢ bigSep Finset.univ fun c : Dev nD => payToks c := by
  unfold toks payToks
  simp only [bigSep_sep']
  rw [deal_bar, deal_recv, deal_recv]
  exact BIBase.Entails.rfl

/-- The positions at a device's own cells. -/
def ownAt (c : Dev nD) : sProp 𝕄 := bigSep Finset.univ fun i : CI => atPos ER (kcell (c, i)) 0 ∅ 0

omit [FloatOps F] in
theorem ownAt_eq (c : Dev nD) : (ownAt c : sProp 𝕄)
    = iprop(atPos ER (barCell c) 0 ∅ 0 ∗ ((atF false false c ∗ atF false true c) ∗ (atF true false c ∗ atF true true c))) := by
  unfold ownAt; rw [bigSep_ci, bigSep_xf]; rfl

theorem ghost_intro (K : Dev nD × CI → ℕ) (c : Dev nD) : iprop(records m ρ K ∗ (ownAt c ∗ payToks c)) ⊢ G' m ρ c := by
  rw [ownAt_eq]
  unfold payToks G' ghost
  iintro ⟨#HR, ⟨HB, HX⟩, HtB, Ht⟩
  iexists K
  isplitr; · iexact HR
  isplitl [HB]; · iexact HB
  isplitl [HX]; · iexact HX
  isplitl [HtB]; · iexact HtB
  iexact Ht

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (Rd m ρ) κ (kcell (c, i))))
          ∗ (bigSep Finset.univ fun i : CI => iprop(atPos ER (kcell (c, i)) 0 ∅ 0 ∗ reached ER (kcell (c, i)) 0)) ∗ toks c) : sProp 𝕄)
      ⊢ bigSep Finset.univ (G' m ρ) := by
  rw [bigSep_sep', bigSep_sep', ← bigSep_univ_prod (fun ci : Dev nD × CI => iprop(∃ κ : ℕ, cellInv ER (Rd m ρ) κ (kcell ci))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ci : Dev nD × CI => (reached ER (kcell ci) 0 : sProp 𝕄))]
  iintro ⟨HI, ⟨Hat, #HR⟩, Htok⟩
  ihave HK := (BI.bigSep_exists_pi Finset.univ (fun (ci : Dev nD × CI) (κ : ℕ) => (cellInv ER (Rd m ρ) κ (kcell ci) : sProp 𝕄))) $$ HI
  icases HK with ⟨%K, #HI⟩
  ihave Htk := (toks_dealt (F := F)) $$ Htok
  iapply (bigSep_with (R := records m ρ K) fun c _ => ghost_intro m ρ K c)
  isplitr
  · unfold records; isplitl; · iexact HI
    iexact HR
  · iapply (Entails.of_eq (bigSep_sep' Finset.univ (fun c : Dev nD => (ownAt c : sProp 𝕄)) payToks).symm)
    isplitl [Hat]; · iexact Hat
    iexact Htk

/-- All the devices' counters and ghost state, made into what each device starts with. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What is owed at the start -/

def O₀ (c : Dev nD) : CellTallies nD τ sig Unit := oB c 0

theorem cell_eq {i j : CI} {c d : Dev nD} (h : cell i c = cell j d) : i = j ∧ c = d :=
  ⟨csem_inj (congrArg Prod.snd h), congrArg (fun g : GSem nD τ sig => g.1.1) h⟩

theorem sum_at (f : Fin 15 → CellTallies nD τ sig Unit) (g : GSem nD τ sig) :
    (∑ k ∈ finFrom 15 0, f k) g () = ∑ k : Fin 15, f k g () := by
  rw [show finFrom 15 0 = (Finset.univ : Finset (Fin 15)) from by decide, Finset.sum_apply, Finsupp.finset_sum_apply]

theorem owed_at (d : Dev nD) (g : GSem nD τ sig) : O₀ d g () = ((∑ k : Fin 15, owR true d k g ()) + ∑ k : Fin 15, owR false d k g ()) + ∑ k : Fin 15, owB d k g () := by
  unfold O₀ oB oS oG
  rw [Pi.add_apply, Finsupp.add_apply, Pi.add_apply, Finsupp.add_apply, Pi.add_apply, Finsupp.add_apply, sum_at, sum_at, sum_at]
  rw [show (0 : CellTallies nD τ sig Unit) g () = 0 from rfl, Nat.zero_add]

theorem tally_cell {i j : CI} {c d : Dev nD} (n : ℕ) :
    (tallyAt (cell i c) () n : CellTallies nD τ sig Unit) (cell j d) () = if i = j ∧ c = d then n else 0 := by
  rw [tallyAt_apply]
  by_cases h : i = j ∧ c = d
  · obtain ⟨rfl, rfl⟩ := h; simp
  · rw [if_neg h, if_neg fun h' => h (by have := cell_eq h'.1; exact ⟨this.1.symm, this.2.symm⟩)]

theorem owed_bar (d c : Dev nD) : O₀ d (barCell c) () = ∑ k : Fin 15, if peer k d = c then 1 else 0 := by
  rw [owed_at]
  have hR : ∀ (p : Bool) (k : Fin 15), owR p d k (barCell c) () = 0 := fun p k =>
    (tally_cell (i := some (p, true, k)) (j := none) (c := peer k d) (d := c) N).trans (if_neg (by simp))
  have hB : ∀ k : Fin 15, owB d k (barCell c) () = if peer k d = c then 1 else 0 := fun k =>
    (tally_cell (i := none) (j := none) (c := peer k d) (d := c) 1).trans (by simp)
  simp only [hR, hB, Finset.sum_const_zero, Nat.zero_add]

theorem owed_recv (d c : Dev nD) (p : Bool) (k : Fin 15) : O₀ d (xfCell (p, true, k) c) () = if peer k d = c then N else 0 := by
  rw [owed_at]
  have hR : ∀ (q : Bool) (l : Fin 15), owR q d l (xfCell (p, true, k) c) () = if l = k then (if q = p then (if peer k d = c then N else 0) else 0) else 0 := fun q l =>
    (tally_cell (i := some (q, true, l)) (j := some (p, true, k)) (c := peer l d) (d := c) N).trans (by
      by_cases hl : l = k
      · subst hl; by_cases hq : q = p <;> by_cases hd : peer l d = c <;> simp [hq, hd]
      · simp [hl])
  have hB : ∀ l : Fin 15, owB d l (xfCell (p, true, k) c) () = 0 := fun l =>
    (tally_cell (i := none) (j := some (p, true, k)) (c := peer l d) (d := c) 1).trans (if_neg (by simp))
  simp only [hR, hB, Finset.sum_const_zero, Nat.add_zero, Finset.sum_ite_eq', Finset.mem_univ, if_true]
  cases p <;> simp

theorem sum_peer (c : Dev nD) (k : Fin 15) (n : ℕ) : (∑ d : Dev nD, if peer k d = c then n else 0) = n := by
  rw [Finset.sum_congr rfl fun d _ => (if_congr (show peer k d = c ↔ d = src k c from
    ⟨fun h => h ▸ (src_peer k d).symm, fun h => h ▸ peer_src k c⟩) rfl rfl), Finset.sum_ite_eq', if_pos (Finset.mem_univ _)]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun k _ => sum_peer c k 1]
  rfl

theorem launch_recv (c : Dev nD) (p : Bool) (k : Fin 15) :
    tallyOn (xfCell (p, true, k) c) (launchCredit (Pipeline.owing O₀) 0 (xfCell (p, true, k) c)) = (tallyAt (xfCell (p, true, k) c) () N : CellTallies nD τ sig Unit) := by
  unfold tallyAt; refine congrArg _ (Finsupp.ext fun u => ?_); cases u
  rw [Pipeline.launchCredit_owing, Finsupp.single_eq_same, Finset.sum_congr rfl fun d _ => owed_recv d c p k, sum_peer]

omit [FloatOps F] in
theorem creds (c : Dev nD) :
    (Pipeline.launchCred O₀ c : sProp 𝕄) ⊢ iprop(cred (tallyAt (barCell c) () 15) ∗ crF false true c ∗ crF true true c) := by
  have hpick : (Pipeline.launchCred O₀ c : sProp 𝕄)
      ⊢ bigSep Finset.univ fun i : CI => (cred (tallyOn (cell i c) (launchCredit (Pipeline.owing O₀) 0 (cell i c))) : sProp 𝕄) := by
    unfold Pipeline.launchCred
    exact (bigSep_subset (Finset.subset_univ (Finset.univ.map ⟨csem, fun _ _ => csem_inj⟩))).trans
      (Entails.of_eq (bigSep_map ⟨csem, fun _ _ => csem_inj⟩))
  refine hpick.trans ?_
  rw [bigSep_ci, bigSep_xf]
  have hX (p : Bool) : (bigSep Finset.univ fun k : Fin 15 => (cred (tallyOn (cell (some (p, true, k)) c) (launchCredit (Pipeline.owing O₀) 0 (cell (some (p, true, k)) c))) : sProp 𝕄))
      = crF p true c := by
    unfold crF
    exact bigSep_congr fun k _ => congrArg _ (launch_recv c p k)
  rw [hX, hX, show tallyOn (cell none c) (launchCredit (Pipeline.owing O₀) 0 (cell none c)) = (tallyAt (barCell c) () 15 : CellTallies nD τ sig Unit) from launch_bar c]
  iintro ⟨H1, ⟨-, H2⟩, ⟨-, H3⟩⟩
  isplitl [H1]; · iexact H1
  isplitl [H2] <;> iassumption

/-! ## The start and the end of a device's run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, H2, H3⟩
  imodintro
  unfold start G'
  isplitl
  · isplitl [HG]; · iexact HG
    isplitl [H1]; · iexact H1
    isplitl [H2]; · iexact H2
    isplitl [H3]; · iexact H3
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems_eq, unscopedSems_eq, bigSep_xf]
  unfold Φ₁ scr zeroF
  iintro ⟨Hr, HB, HX⟩
  isplitl [HB]; · iexact HB
  isplitl [HX]; · iexact HX
  iexact Hr

theorem waits (c : Dev nD) : (levAts L lv : sProp 𝕄) ⊢ Pipeline.cellsWaits cfgs (dats m ρ) () 0 c :=
  Pipeline.cellsWaits_intro cfgs (dats m ρ) () 0 c fun w s t =>
    mayWait c _ _ (by
      rw [show ∀ q : SemLoc sig, dec q = none → lv ((c : Thread nD τ), q) () = 0 from fun q hq => by
        show lvi (dec q) = 0; rw [hq]; rfl]
      · rcases t with ⟨_ | _, ht⟩
        · exact above_oB c 0
        · exact above_zero 0
      · fin_cases w <;> fin_cases s <;> decide)

/-! ## The run -/

/-- What the array of window `w` holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 16000 in
/-- On the mesh of sixteen devices, for any float values, from any memory with every counter at zero: each weakly fair execution
    of the program ends, with every counter at zero, the arguments' arrays unchanged and the result's array at the computed contents. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_minted m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Moe

end

end
-- ==== Proof.Frames.lean ====
/-
# 01_k — the arrays at the end

From the run: each argument's array is as it was, and the result's array holds the computed contents. The kernel as printed and
the kernel as idealized are one text, so the run serves both.
-/
module

public import proofs.«01_k».proof.Proof.Launched
public import proofs.«01_k».proof.Defs
public import proofs.«01_k».proof.Proof.Gen.Kernel
public import proofs.«01_k».proof.Proof.Gen.ReferenceIdeal.Run

@[expose] public section

noncomputable section

namespace Cert.Moe

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem kept (c : Dev nD) {r : PUnit × MemSt nD τ sig (Elt F)} (h : QC m ρ r) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  ⟨(h c 0).trans ((dats m ρ 0 c).arrAt_in (0 : Fin 6) rfl _), (h c 1).trans ((dats m ρ 0 c).arrAt_in (1 : Fin 6) rfl _),
    (h c 2).trans ((dats m ρ 0 c).arrAt_in (2 : Fin 6) rfl _), (h c 3).trans ((dats m ρ 0 c).arrAt_in (3 : Fin 6) rfl _),
    (h c 4).trans ((dats m ρ 0 c).arrAt_in (4 : Fin 6) rfl _)⟩

theorem frame_any (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.sem = fun _ => 0) :=
  (θ_run defs _ _).mono (fun _ h => ⟨fun c => kept m ρ c h.1, h.2⟩) (run_main m ρ)

theorem frame_ideal : Cert.quiescent_KernelIdeal := fun m ρ _ => frame_any m ρ

/-- The two programs' body tables are one. -/
theorem defs₀_eq : Cert.Kernel.defs₀ (F := F) = Cert.KernelIdeal.defs₀ (F := F) := by
  unfold Cert.Kernel.defs₀ Cert.KernelIdeal.defs₀
  refine congrArg Defs.onTc ?_
  funext l x
  fin_cases l
  rcases x with ⟨t, s⟩
  rfl

theorem defs_eq : Cert.Kernel.defs (F := F) = Cert.KernelIdeal.defs (F := F) := by
  unfold Cert.Kernel.defs Cert.KernelIdeal.defs
  rw [defs₀_eq]
  rfl

theorem frame_kernel : Cert.quiescent_Kernel := fun m ρ _ => by
  rw [defs_eq]
  exact frame_any (F := Bits) m ρ

theorem frame_reference : Cert.quiescent_ReferenceIdeal := fun m ρ _ =>
  (θ_run Cert.ReferenceIdeal.defs _ _).mono
    (fun r h => ⟨fun c => (h c).2, by funext g; rcases g with ⟨t, sm⟩; cases sm <;> rename_i q <;> exact q.elim0⟩)
    (Cert.ReferenceIdeal.Value.run m ρ)

end Cert.Moe

end

end
-- ==== Proof.Readings.lean ====
/-
# 01_k — what the kernel's vector operations compute, entry by entry

Over the extended reals. The arrays here are arbitrary; the device and the memory come later.
-/
module

public import proofs.«01_k».proof.Proof.Protocol
public import Idealize.ShloMosaic.Lib.Pointwise
public import Idealize.ShloMosaic.Lib.StableHlo.Predicate

@[expose] public section

noncomputable section

namespace Cert.Moe

open Cert.KernelIdeal Cert.KernelIdeal.Gen
open Idealize.ShloMosaic Idealize.ShloMosaic.TcCoe Idealize.SL.Sem
open Idealize.ShloMosaic.Pointwise

/-- A token's product with a matrix, at one column. -/
def dotX (X : FVec Ideal S512x256 .bf16) (M : FVec Ideal S256x512 .bf16) (n o : Fin 512) : EReal :=
  ∑ k : Fin 256, X (ix2 n k) * M (ix2 k o)

theorem pay8_apply (X : FVec Ideal S512x256 .bf16) (M : FVec Ideal S256x512 .bf16) (n o : Fin 512) :
    k0_pay8 (F := Ideal) (k0_pay2 X) M (ix2 n o) = dotX X M n o := by
  pointwise [k0_pay8, k0_pay2, dotX]

/-- The left half of the product with the two expert matrices side by side. -/
theorem pay4_left (X : FVec Ideal S512x256 .bf16) (A B : FVec Ideal S1x256x512 .bf16) (n o : Fin 512) :
    k0_pay4 (F := Ideal) (k0_pay2 X) A B (ix2 n ⟨o.val, by omega⟩) = ∑ k : Fin 256, X (ix2 n k) * A (ix3 0 k o) := by
  pointwise [k0_pay4, k0_pay2]

theorem pay4_right (X : FVec Ideal S512x256 .bf16) (A B : FVec Ideal S1x256x512 .bf16) (n o : Fin 512) :
    k0_pay4 (F := Ideal) (k0_pay2 X) A B (ix2 n ⟨512 + o.val, by omega⟩) = ∑ k : Fin 256, X (ix2 n k) * B (ix3 0 k o) := by
  pointwise [k0_pay4, k0_pay2]

/-- A select on the equality of two words. -/
theorem select_eq (u w : BitVec 32) (x y : EReal) :
    Scalar.select (IntOp.cmpi CmpIPredicate.eq u w) x y = if u = w then x else y := by
  by_cases h : u = w
  · rw [if_pos h, StableHlo.Predicate.cmpi_eq_iff.mpr h, ValueIdx.select_one]
  · rw [if_neg h, ValueIdx.eq_zero_of_ne_one (fun h' => h (StableHlo.Predicate.cmpi_eq_iff.mp h')), ValueIdx.select_zero]

theorem ofNat_inj (x e : Fin 32) : BitVec.ofNat 32 x.val = BitVec.ofNat 32 e.val ↔ x = e := by
  revert x e; decide

/-- Of the sum along a row, only the entry in column `e` is kept. -/
theorem sum_gate (e : Fin 32) (p : Fin 32 → EReal) :
    (∑ x : Fin 32, Scalar.select (IntOp.cmpi CmpIPredicate.eq (BitVec.ofNat 32 x.val) (BitVec.ofNat 32 e.val)) (p x) 0) = p e := by
  simp only [select_eq, ofNat_inj, Finset.sum_ite_eq', Finset.mem_univ, if_true]

/-- The first expert's share. -/
theorem pay5_apply (v : BitVec 32) (e : Fin 32) (he : Scalar.addi (Scalar.muli v 2#32) 0#32 = BitVec.ofNat 32 e.val)
    (X : FVec Ideal S512x256 .bf16) (P : FVec Ideal S512x32 .f32) (A B : FVec Ideal S1x256x512 .bf16) (I : IVec S512x1 32) (n o : Fin 512) :
    k0_pay5 (F := Ideal) v (k0_pay2 X) P A B I (ix2 n o)
      = if I (ix2 n 0) = BitVec.ofNat 32 e.val then P (ix2 n e) * ∑ k : Fin 256, X (ix2 n k) * A (ix3 0 k o) else 0 := by
  pointwise [k0_pay5]
  rw [he, sum_gate e fun x => P (ix2 n x), pay4_left, select_eq]

/-- The second expert's weight. -/
theorem pay6_apply (v : BitVec 32) (e : Fin 32) (he : Scalar.addi (Scalar.muli v 2#32) 1#32 = BitVec.ofNat 32 e.val)
    (P : FVec Ideal S512x32 .f32) (I : IVec S512x1 32) (n : Fin 512) :
    k0_pay6 (F := Ideal) v P I (ix2 n 0) = if I (ix2 n 0) = BitVec.ofNat 32 e.val then P (ix2 n e) else 0 := by
  pointwise [k0_pay6]
  rw [he, sum_gate e fun x => P (ix2 n x), select_eq]

theorem pay7_apply (Y : FVec Ideal S512x1024 .f32) (A : FVec Ideal S512x512 .f32) (W : FVec Ideal S512x1 .f32) (n o : Fin 512) :
    k0_pay7 (F := Ideal) Y A W (ix2 n o) = A (ix2 n o) + W (ix2 n 0) * Y (ix2 n ⟨512 + o.val, by omega⟩) := by
  pointwise [k0_pay7]

theorem pay1_apply (A : FVec Ideal S512x512 .f32) (B : FVec Ideal S512x512 .bf16) (n o : Fin 512) :
    k0_pay1 (F := Ideal) A B (ix2 n o) = A (ix2 n o) + B (ix2 n o) := by
  pointwise [k0_pay1]

/-- One device's partial result: the share of its two experts `e` and `f`. -/
theorem partial_apply (v : BitVec 32) (e f : Fin 32) (he : Scalar.addi (Scalar.muli v 2#32) 0#32 = BitVec.ofNat 32 e.val)
    (hf : Scalar.addi (Scalar.muli v 2#32) 1#32 = BitVec.ofNat 32 f.val)
    (X : FVec Ideal S512x256 .bf16) (P : FVec Ideal S512x32 .f32) (A B : FVec Ideal S1x256x512 .bf16) (I : IVec S512x1 32) (n o : Fin 512) :
    k0_pay7 (F := Ideal) (k0_pay4 (k0_pay2 X) A B) (k0_pay5 v (k0_pay2 X) P A B I) (k0_pay6 v P I) (ix2 n o)
      = (if I (ix2 n 0) = BitVec.ofNat 32 e.val then P (ix2 n e) * ∑ k : Fin 256, X (ix2 n k) * A (ix3 0 k o) else 0)
        + (if I (ix2 n 0) = BitVec.ofNat 32 f.val then P (ix2 n f) * ∑ k : Fin 256, X (ix2 n k) * B (ix3 0 k o) else 0) := by
  rw [pay7_apply, pay5_apply v e he, pay6_apply v f hf, pay4_right]
  congr 1
  split
  · rfl
  · exact zero_mul _

end Cert.Moe

end

end
-- ==== Proof.RefReadings.lean ====
/-
# 01_k — what the reference computes, entry by entry

Over the extended reals, for arbitrary arrays.
-/
module

public import proofs.«01_k».proof.Proof.Readings
public import proofs.«01_k».proof.Proof.Gen.ReferenceIdeal.Run
public import Idealize.ShloMosaic.Lib.KernelVsHost

@[expose] public section

noncomputable section

namespace Cert.Moe

open Cert.ReferenceIdeal Cert.ReferenceIdeal.Gen
open Idealize.ShloMosaic Idealize.ShloMosaic.TcCoe Idealize.SL.Sem
open Idealize.ShloMosaic.Pointwise

/-! ## The reference's term, in parts -/

/-- The router's scores. -/
def refScores (X : FVec Ideal S512x256 .bf16) (R : FVec Ideal S256x32 .bf16) : FVec Ideal S512x32 .f32 :=
  Host.dotGeneral dot_S512x256_S256x32_S512x32_1_0_0_1_n_n none (extf .f32 X bitsLt_bf16_f32) (extf .f32 R bitsLt_bf16_f32)

/-- A row's number at each of its entries. -/
def refRows (v : FVec Ideal S512 .f32) : FVec Ideal S512x32 .f32 :=
  broadcastInDim S512x32 ![0, 1] bcast_S512x1_S512x32_0_1 (broadcastInDim S512x1 ![0] bcast_S512_S512x1_0 v)

/-- The exponentials of the scores, each less its row's maximum. -/
def refExps (S : FVec Ideal S512x32 .f32) : FVec Ideal S512x32 .f32 :=
  Host.exp (subf S (refRows (Host.reduce FloatOps.maximumf S (constant S_ .f32 0xFF800000#32) reducesTo_S512x32_S512_d1 h_S_)))

/-- Each divided by its row's sum: the probabilities. -/
def refProbs (E : FVec Ideal S512x32 .f32) : FVec Ideal S512x32 .f32 :=
  Host.divf E (refRows (Host.reduceAdd E (constant S_ .f32 0x00000000#32) reducesTo_S512x32_S512_d1 h_S_))

/-- The probability of the expert that the token is routed to. -/
def refChosen (P : FVec Ideal S512x32 .f32) (I : IVec S512x1 32) : FVec Ideal S512x1 .f32 :=
  Host.gather gather_S512x32_S512x1x1_S512x1_n_1_0_0_1_2_11 P
    (shapeCast _ (select (cmpi .slt I (broadcastInDim S512x1 ![] bcast_S_S512x1 (constantI S_ 32 0#32)))
      (addi I (broadcastInDim S512x1 ![] bcast_S_S512x1 (constantI S_ 32 32#32))) I) shapeCasts_S512x1_S512x1x1)

/-- The token's product with the matrix of the expert that it is routed to. -/
def refRouted (X : FVec Ideal S512x256 .bf16) (I : IVec S512x1 32) (W : FVec Ideal S32x256x512 .bf16) : FVec Ideal S512x512 .f32 :=
  Host.dotGeneral dot_S512x256_S512x256x512_S512x512_1_1_n_2_0_0 none (extf .f32 X bitsLt_bf16_f32)
    (Host.gather gather_S32x256x512_S512x1_S512x256x512_12_0_n_n_0_1_1256512 (extf .f32 W bitsLt_bf16_f32)
      (broadcastInDim S512x1 ![0] bcast_S512_S512x1_0 (shapeCast _ I shapeCasts_S512x1_S512)))

/-- Whether the token names an expert. -/
def refNamed (I : IVec S512x1 32) : IVec S512x1 1 :=
  andi (cmpi .sge I (broadcastInDim S512x1 ![] bcast_S_S512x1 (constantI S_ 32 0#32)))
    (cmpi .slt I (broadcastInDim S512x1 ![] bcast_S_S512x1 (constantI S_ 32 32#32)))

def refTerm (X : FVec Ideal S512x256 .bf16) (R : FVec Ideal S256x32 .bf16) (I : IVec S512x1 32) (W : FVec Ideal S32x256x512 .bf16)
    (M : FVec Ideal S256x512 .bf16) : FVec Ideal S512x512 .f32 :=
  addf (Host.dotGeneral dot_S512x256_S256x512_S512x512_1_0_0_1_n_n none (extf .f32 X bitsLt_bf16_f32) (extf .f32 M bitsLt_bf16_f32))
    (select (broadcastInDim S512x512 ![0, 1] bcast_S512x1_S512x512_0_1 (refNamed I))
      (mulf (broadcastInDim S512x512 ![0, 1] bcast_S512x1_S512x512_0_1 (refChosen (refProbs (refExps (refScores X R))) I)) (refRouted X I W))
      (broadcastInDim S512x512 ![] bcast_S_S512x512 (id (constant S_ .f32 0x00000000#32))))

/-! ## Read at an entry -/

/-- The row that an index word names, when it is taken into the range of the thirty-two experts. -/
def clip (u : BitVec 32) : Fin 32 := ⟨min u.toInt.toNat 31, by omega⟩

theorem gather_probs (P : FVec Ideal S512x32 .f32) (J : IVec S512x1x1 32) (n : Fin 512) :
    Host.gather gather_S512x32_S512x1x1_S512x1_n_1_0_0_1_2_11 P J (ix2 n 0) = P (ix2 n (clip (J (ix3 n 0 0)))) := by
  have hJ : gather_S512x32_S512x1x1_S512x1_n_1_0_0_1_2_11.siIdx (ix2 n 0) ⟨0, by decide⟩ = ix3 n 0 0 := by
    funext b
    match b with
    | ⟨0, _⟩ => rfl
    | ⟨1, _⟩ => rfl
    | ⟨2, _⟩ => rfl
  unfold Host.gather
  congr 1
  funext a
  match a with
  | ⟨0, _⟩ => exact Fin.ext (by show 0 + n.val + 0 = n.val; omega)
  | ⟨1, _⟩ => exact Fin.ext (congrArg (fun q => min (J q).toInt.toNat 31) hJ)

theorem gather_experts (W : FVec Ideal S32x256x512 .f32) (J : IVec S512x1 32) (n : Fin 512) (k : Fin 256) (o : Fin 512) :
    Host.gather gather_S32x256x512_S512x1_S512x256x512_12_0_n_n_0_1_1256512 W J (ix3 n k o) = W (ix3 (clip (J (ix2 n 0))) k o) := by
  have hJ : gather_S32x256x512_S512x1_S512x256x512_12_0_n_n_0_1_1256512.siIdx (ix3 n k o) ⟨0, by decide⟩ = ix2 n 0 := by
    funext b
    match b with
    | ⟨0, _⟩ => rfl
    | ⟨1, _⟩ => rfl
  unfold Host.gather
  congr 1
  funext a
  match a with
  | ⟨0, _⟩ => exact Fin.ext (congrArg (fun q => min (J q).toInt.toNat 31) hJ)
  | ⟨1, _⟩ => exact Fin.ext (by show 0 + 0 + k.val = k.val; omega)
  | ⟨2, _⟩ => exact Fin.ext (by show 0 + 0 + o.val = o.val; omega)

theorem refProbs_eq (X : FVec Ideal S512x256 .bf16) (R : FVec Ideal S256x32 .bf16) :
    refProbs (refExps (refScores X R)) = Cert.KernelIdeal.Gen.k0_pay3 (F := Ideal) X R := by
  funext j
  idx_vars j
  pointwise [refProbs, refExps, refScores, refRows, Cert.KernelIdeal.Gen.k0_pay3, Cert.KernelIdeal.Gen.k0_pay2]

/-- One expert's share of a token: nothing for a token that is routed elsewhere. -/
def share (X : FVec Ideal S512x256 .bf16) (P : FVec Ideal S512x32 .f32) (I : IVec S512x1 32) (W : FVec Ideal S32x256x512 .bf16)
    (n o : Fin 512) (e : Fin 32) : EReal :=
  if I (ix2 n 0) = BitVec.ofNat 32 e.val then P (ix2 n e) * ∑ k : Fin 256, X (ix2 n k) * W (ix3 e k o) else 0

/-- Of a word in the range of the experts, one equation decides each test that the reference makes; of any other word, none holds. -/
theorem word_cases (u : BitVec 32) :
    (∃ e : Fin 32, u = BitVec.ofNat 32 e.val) ∨
      ((∀ e : Fin 32, u ≠ BitVec.ofNat 32 e.val) ∧ IntOp.andi (IntOp.cmpi CmpIPredicate.sge u 0#32) (IntOp.cmpi CmpIPredicate.slt u 32#32) = 0#1) := by
  by_cases h : u.toNat < 32
  · exact .inl ⟨⟨u.toNat, h⟩, by simp⟩
  · refine .inr ⟨fun e he => h (by rw [he, BitVec.toNat_ofNat]; omega), ?_⟩
    have hn : ¬ (0 ≤ u.toInt ∧ u.toInt < 32) := by rw [BitVec.toInt_eq_toNat_cond]; split <;> omega
    unfold IntOp.andi IntOp.cmpi
    simp only [BitVec.sle, BitVec.slt]
    rw [show (0#32 : BitVec 32).toInt = 0 from by decide, show (32#32 : BitVec 32).toInt = 32 from by decide]
    by_cases h0 : 0 ≤ u.toInt
    · rw [decide_eq_false fun h' => hn ⟨h0, h'⟩]; exact BitVec.and_zero
    · rw [decide_eq_false h0]; exact BitVec.zero_and

theorem word_tests (e : Fin 32) :
    IntOp.andi (IntOp.cmpi CmpIPredicate.sge (BitVec.ofNat 32 e.val) 0#32) (IntOp.cmpi CmpIPredicate.slt (BitVec.ofNat 32 e.val) 32#32) = 1#1
      ∧ IntOp.cmpi CmpIPredicate.slt (BitVec.ofNat 32 e.val) 0#32 = 0#1 ∧ clip (BitVec.ofNat 32 e.val) = e := by
  revert e; decide

/-- The reference's result: the shared product, and the sum over the experts of what each gives the token. -/
theorem refTerm_apply (X : FVec Ideal S512x256 .bf16) (R : FVec Ideal S256x32 .bf16) (I : IVec S512x1 32) (W : FVec Ideal S32x256x512 .bf16)
    (M : FVec Ideal S256x512 .bf16) (n o : Fin 512) :
    refTerm X R I W M (ix2 n o) = dotX X M n o + ∑ e : Fin 32, share X (Cert.KernelIdeal.Gen.k0_pay3 (F := Ideal) X R) I W n o e := by
  unfold refTerm
  rw [refProbs_eq]
  generalize Cert.KernelIdeal.Gen.k0_pay3 (F := Ideal) X R = P
  pointwise [refNamed, refRouted, refChosen, gather_probs, gather_experts, id, dotX]
  congr 1
  rcases word_cases (I (ix2 n 0)) with ⟨e, he⟩ | ⟨h, h0⟩
  · obtain ⟨h1, h2, h3⟩ := word_tests e
    rw [Finset.sum_eq_single e]
    · unfold share
      rw [if_pos he, he, h1, h2, ValueIdx.select_one, ValueIdx.select_zero, h3]
    · intro x _ hx
      exact if_neg fun h' => hx ((ofNat_inj x e).mp (h'.symm.trans he))
    · exact fun h' => absurd (Finset.mem_univ e) h'
  · rw [h0, ValueIdx.select_zero]
    exact (Finset.sum_eq_zero fun e _ => if_neg (h e)).symm

theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v27) = refTerm (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run m ρ

end Cert.Moe

end

end
-- ==== Proof.KernelValue.lean ====
/-
# 01_k — the kernel's result, entry by entry

Over the extended reals: the partial results of the sixteen devices, their sum, and the result on each device, as formulas over the
arguments in the devices' memories.
-/
module

public import proofs.«01_k».proof.Proof.RefReadings
public import proofs.«01_k».proof.Proof.Frames
public import Idealize.ShloMosaic.Lib.Layout
public import Idealize.ShloMosaic.Lib.Pipeline.ValueKit

@[expose] public section

noncomputable section

namespace Cert.Moe

open Cert.KernelIdeal Cert.KernelIdeal.Gen
open Idealize.ShloMosaic Idealize.ShloMosaic.TcCoe Idealize.SL.Sem
open Idealize.ShloMosaic.Pointwise

variable (m : (ℓ : Loc nD τ sig) → Buf (Elt Ideal) ℓ) (ρ : Dev nD → PrngReg)

/-! ## The arguments -/

theorem xin_eq (c : Dev nD) : xin m ρ c = m ((c : Thread nD τ).loc main_arg0) := by
  funext i
  exact congrArg (m ((c : Thread nD τ).loc main_arg0)) (funext fun a => Fin.ext (win0_0.rect_emb_val_of_index_zero (0 : Fin 1) a (by revert a; decide) i))
theorem rin_eq (c : Dev nD) : rin m ρ c = m ((c : Thread nD τ).loc main_arg1) := by
  funext i
  exact congrArg (m ((c : Thread nD τ).loc main_arg1)) (funext fun a => Fin.ext (win0_1.rect_emb_val_of_index_zero (0 : Fin 1) a (by revert a; decide) i))
theorem iin_eq (c : Dev nD) : iin m ρ c = m ((c : Thread nD τ).loc main_arg2) := by
  funext i
  exact congrArg (m ((c : Thread nD τ).loc main_arg2)) (funext fun a => Fin.ext (win0_2.rect_emb_val_of_index_zero (0 : Fin 1) a (by revert a; decide) i))
theorem win_eq (c : Dev nD) : win m ρ c = m ((c : Thread nD τ).loc main_arg3) := by
  funext i
  exact congrArg (m ((c : Thread nD τ).loc main_arg3)) (funext fun a => Fin.ext (win0_3.rect_emb_val_of_index_zero (0 : Fin 1) a (by revert a; decide) i))
theorem sin_eq (c : Dev nD) : sin m ρ c = m ((c : Thread nD τ).loc main_arg4) := by
  funext i
  exact congrArg (m ((c : Thread nD τ).loc main_arg4)) (funext fun a => Fin.ext (win0_4.rect_emb_val_of_index_zero (0 : Fin 1) a (by revert a; decide) i))

theorem w0_apply (c : Dev nD) (k : Fin 256) (o : Fin 512) : w0 m ρ c (ix3 0 k o) = win m ρ c (ix3 (n0 := 2) 0 k o) := by
  refine congrArg (win m ρ c) (funext fun a => ?_)
  match a with
  | ⟨0, _⟩ => rfl
  | ⟨1, _⟩ => exact Fin.ext (by show 0 + 1 * k.val = k.val; omega)
  | ⟨2, _⟩ => exact Fin.ext (by show 0 + 1 * o.val = o.val; omega)
theorem w1_apply (c : Dev nD) (k : Fin 256) (o : Fin 512) : w1 m ρ c (ix3 0 k o) = win m ρ c (ix3 (n0 := 2) 1 k o) := by
  refine congrArg (win m ρ c) (funext fun a => ?_)
  match a with
  | ⟨0, _⟩ => rfl
  | ⟨1, _⟩ => exact Fin.ext (by show 0 + 1 * k.val = k.val; omega)
  | ⟨2, _⟩ => exact Fin.ext (by show 0 + 1 * o.val = o.val; omega)

/-! ## The experts of a device -/

def expert (c : Dev nD) (j : Fin 2) : Fin 32 := ⟨2 * c.val + j.val, by have : c.val < 16 := c.isLt; omega⟩

theorem word_first (c : Dev nD) : Scalar.addi (Scalar.muli (v2w c) 2#32) 0#32 = BitVec.ofNat 32 (expert c 0).val := by
  revert c; decide
theorem word_second (c : Dev nD) : Scalar.addi (Scalar.muli (v2w c) 2#32) 1#32 = BitVec.ofNat 32 (expert c 1).val := by
  revert c; decide

theorem sum_experts (f : Fin 32 → EReal) : (∑ c : Dev nD, (f (expert c 0) + f (expert c 1))) = ∑ e : Fin 32, f e := by
  rw [← Finset.sum_equiv (M := EReal) (finProdFinEquiv (m := 16) (n := 2)) (s := Finset.univ) (f := fun p => f (expert p.1 p.2)) (fun _ => by simp) (fun p _ => congrArg f (Fin.ext (by
    show 2 * p.1.val + p.2.val = p.2.val + 2 * p.1.val; omega))), ← Finset.univ_product_univ, Finset.sum_product]
  exact Finset.sum_congr rfl fun c _ => (Fin.sum_univ_two fun j => f (expert c j)).symm

/-! ## The sum of the partial results -/

theorem piece_apply (a b : Dev nD) (r : Fin 32) (o : Fin 512) :
    piece m ρ a b (ix2 r o) = psv m ρ a (ix2 ⟨32 * b.val + r.val, by have : b.val < 16 := b.isLt; omega⟩ o) := by
  refine congrArg (psv m ρ a) (funext fun x => ?_)
  match x with
  | ⟨0, _⟩ => exact Fin.ext (chunk_emb b (ix2 r o)).1
  | ⟨1, _⟩ => exact Fin.ext (chunk_emb b (ix2 r o)).2

theorem redv_apply (c : Dev nD) (r : Fin 32) (o : Fin 512) :
    redv m ρ c (ix2 r o) = piece m ρ c c (ix2 r o) + ∑ k : Fin 15, piece m ρ (src k c) c (ix2 r o) := by
  unfold redv
  pointwise [k0_pay9, k0_pay10, k0_pay11, k0_pay12, k0_pay13, k0_pay14, k0_pay15, slab]
  simp only [Fin.sum_univ_succ, Fin.sum_univ_zero, add_zero]
  simp only [← add_assoc]
  rfl

theorem sum_devices (c : Dev nD) (f : Dev nD → EReal) : f c + ∑ k : Fin 15, f (src k c) = ∑ d : Dev nD, f d := by
  have hi : Function.Injective fun k : Fin 15 => src k c := by revert c; decide
  have hu : (Finset.univ.erase c : Finset (Dev nD)) = Finset.univ.map ⟨fun k : Fin 15 => src k c, hi⟩ := by revert c; decide
  rw [← Finset.add_sum_erase _ f (Finset.mem_univ c), hu, Finset.sum_map]
  rfl

theorem final_out (c : Dev nD) : finalA m ρ c 5 = outv m ρ c := by
  refine (dats m ρ 0 c).arrAt_eq_of_after_last (5 : Fin 6) (0 : Fin 1) ⟨by decide, fun t _ => Subsingleton.elim (α := Fin 1) t 0, by decide⟩ _ fun j => ?_
  rfl

end Cert.Moe

end

end
-- ==== Proof.Value.lean ====
/-
# 01_k — the kernel and the reference give one result

Every device's result array ends with the reference's result. Device `d`'s partial result is the share of experts `2d` and `2d + 1`;
the sum over the devices is the sum over the thirty-two experts, of which a token takes at most one.
-/
module

public import proofs.«01_k».proof.Proof.KernelValue

@[expose] public section

noncomputable section

namespace Cert.Moe

open Cert.KernelIdeal Cert.KernelIdeal.Gen
open Idealize.ShloMosaic Idealize.ShloMosaic.TcCoe Idealize.SL.Sem
open Idealize.ShloMosaic.Pointwise

variable (m : (ℓ : Loc nD τ sig) → Buf (Elt Ideal) ℓ) (ρ : Dev nD → PrngReg)
variable (X : FVec Ideal S512x256 .bf16) (R : FVec Ideal S256x32 .bf16) (I : IVec S512x1 32)
  (W : FVec Ideal Cert.ReferenceIdeal.S32x256x512 .bf16) (M : FVec Ideal S256x512 .bf16)

/-- The devices' memories hold the five arrays: each array whole, but the experts' matrices, of which a device holds its two. -/
def Holds : Prop := ∀ c : Dev nD,
  m ((c : Thread nD τ).loc main_arg0) = X ∧ m ((c : Thread nD τ).loc main_arg1) = R ∧ m ((c : Thread nD τ).loc main_arg2) = I
    ∧ m ((c : Thread nD τ).loc main_arg3) = Layout.block ⟨3, ![2, 256, 512]⟩ ⟨3, ![32, 256, 512]⟩ 0 16 c W
    ∧ m ((c : Thread nD τ).loc main_arg4) = M

/-- The matrices of a device are those of its two experts. -/
theorem block_experts (c : Dev nD) (j : Fin 2) (k : Fin 256) (o : Fin 512) :
    Layout.block ⟨3, ![2, 256, 512]⟩ ⟨3, ![32, 256, 512]⟩ 0 16 c W (by decide) (ix3 j k o) = W (ix3 (expert c j) k o) := by
  refine congrArg W (funext fun a => ?_)
  match a with
  | ⟨0, _⟩ => exact Fin.ext (by show c.val * 2 + j.val = 2 * c.val + j.val; omega)
  | ⟨1, _⟩ => rfl
  | ⟨2, _⟩ => rfl

variable {m X R I W M} (h : Holds m X R I W M)
include h

/-- A device's partial result: the share of its two experts. -/
theorem psv_apply (c : Dev nD) (n o : Fin 512) :
    psv m ρ c (ix2 n o)
      = share X (k0_pay3 (F := Ideal) X R) I W n o (expert c 0) + share X (k0_pay3 (F := Ideal) X R) I W n o (expert c 1) := by
  obtain ⟨h0, h1, h2, h3, h4⟩ := h c
  unfold psv probsv
  rw [partial_apply _ _ _ (word_first c) (word_second c)]
  simp only [w0_apply, w1_apply, win_eq, xin_eq, rin_eq, iin_eq]
  rw [h0, h1, h2, h3]
  simp only [block_experts]
  rfl

/-- The summed rows, gathered: the share of all the experts. -/
theorem agFull_apply (n o : Fin 512) :
    agFull m ρ (ix2 n o) = ∑ e : Fin 32, share X (k0_pay3 (F := Ideal) X R) I W n o e := by
  have hc : n.val / 32 < 16 := by omega
  have hn : (⟨32 * (n.val / 32) + n.val % 32, by omega⟩ : Fin 512) = n := Fin.ext (by show 32 * (n.val / 32) + n.val % 32 = n.val; omega)
  have e1 : agFull m ρ (ix2 n o) = redv m ρ ⟨n.val / 32, hc⟩ (ix2 ⟨n.val % 32, Nat.mod_lt _ (by decide)⟩ o) := by
    rw [ix2_eq_valueIdx ⟨n.val % 32, Nat.mod_lt _ (by decide)⟩ o]
    rfl
  rw [e1, redv_apply, sum_devices _ fun d => piece m ρ d ⟨n.val / 32, hc⟩ (ix2 ⟨n.val % 32, Nat.mod_lt _ (by decide)⟩ o)]
  simp only [piece_apply, hn]
  rw [Finset.sum_congr rfl fun d _ => psv_apply ρ h d n o]
  exact sum_experts fun e => share X (k0_pay3 (F := Ideal) X R) I W n o e

/-- Every device's result is the reference's. -/
theorem outv_eq (c : Dev nD) : outv m ρ c = refTerm X R I W M := by
  funext j
  obtain ⟨n, o, rfl⟩ : ∃ n o : Fin 512, j = ix2 n o := ⟨j 0, j 1, eq_ix2 j⟩
  obtain ⟨h0, h1, h2, h3, h4⟩ := h c
  rw [refTerm_apply]
  unfold outv
  rw [pay1_apply, pay8_apply, agFull_apply ρ h, xin_eq, sin_eq, h0, h4]

omit h

/-- Over the extended reals, on memories that hold the same arguments, the result array of every device ends with the contents that the
    reference's result array ends with. -/
theorem value : Cert.algebraic_KernelIdeal_ReferenceIdeal := fun m g m' g' _ h => by
  refine ⟨_, ?_, (θ_run Cert.ReferenceIdeal.defs _ _).mono (fun _ hr => hr (0 : Dev Cert.ReferenceIdeal.nD)) (run_reference m' g')⟩
  refine (θ_run defs _ _).mono (fun r hr c => ⟨?_, kept m g c hr.1⟩) (run_main m g)
  exact ((hr.1 c 5).trans (final_out m g c)).trans (outv_eq g h c)

end Cert.Moe

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Moe.frame_kernel, Cert.Moe.frame_ideal, Cert.Moe.frame_reference, trivial, Cert.Moe.value⟩

end Cert.Proof

end
